-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S16384 : Shape := ⟨1, ![16384]⟩
abbrev S16384x1024 : Shape := ⟨2, ![16384, 1024]⟩
abbrev S1024x1024 : Shape := ⟨2, ![1024, 1024]⟩
abbrev S1024x1 : Shape := ⟨2, ![1024, 1]⟩
abbrev S64x1 : Shape := ⟨2, ![64, 1]⟩
abbrev S64x128 : Shape := ⟨2, ![64, 128]⟩
abbrev S1x128 : Shape := ⟨2, ![1, 128]⟩
abbrev S64 : Shape := ⟨1, ![64]⟩
abbrev S64x1024 : Shape := ⟨2, ![64, 1024]⟩
abbrev S64x256 : Shape := ⟨2, ![64, 256]⟩

abbrev nBuf : Space → Nat
  | .hbm => 15
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024x256, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S1024x256, .bf16⟩
  | .hbm, ⟨12, _⟩ => ⟨S16384, .i32⟩
  | .hbm, ⟨13, _⟩ => ⟨S16384x1024, .f32⟩
  | .hbm, ⟨14, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024, .i32⟩
  | .local _ .vmem, ⟨3, _⟩ => ⟨S1024, .i32⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0_1 : Ref sig .tc := ⟨.hbm, 12, rfl⟩
abbrev main_v0_2 : Ref sig .tc := ⟨.hbm, 13, rfl⟩
abbrev main_v0_0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x256 : Shape := ⟨2, ![16384, 256]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S256x1024 : Shape := ⟨2, ![256, 1024]⟩
abbrev S16384x1024 : Shape := ⟨2, ![16384, 1024]⟩
abbrev S1024 : Shape := ⟨1, ![1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S256x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x1, .i32⟩
  | .hbm, ⟨25, _⟩ => ⟨S1x1024, .i32⟩
  | .hbm, ⟨26, _⟩ => ⟨S16384x1024, .i32⟩
  | .hbm, ⟨27, _⟩ => ⟨S16384x1024, .i32⟩
  | .hbm, ⟨28, _⟩ => ⟨S16384x1024, .i1⟩
  | .hbm, ⟨29, _⟩ => ⟨S16384x1024, .f32⟩
  | .hbm, ⟨30, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Proof.BodyIdeal.lean ====
/-
  One grid point of the kernel, run once for every point.

  The kernel fetches its four constant operands itself: at the first grid point it starts four copies from HBM into
  scratch on one DMA semaphore and waits for all four; every later point reads the scratch the first one filled. The
  state between two points is therefore: nothing known of the scratch before the first point, the four operands in it
  from then on. `part1_spec` proves both ways into the body at once; the rest of the body runs after it without asking
  which point it is at.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.MixedBatch
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- Scratch: twice the codebook, the codebook at bf16, its squared norms, the row of column numbers. -/
abbrev scE : Memref sig .tc .vmem S1024x256 .f32 := Memref.whole cc0_scratch0
abbrev scB : Memref sig .tc .vmem S1024x256 .bf16 := Memref.whole cc0_scratch1
abbrev scQ : Memref sig .tc .vmem S1x1024 .f32 := Memref.whole cc0_scratch2
abbrev scI : Memref sig .tc .vmem S1x1024 .f32 := Memref.whole cc0_scratch3
/-- The same four as the host left them in HBM. -/
abbrev hbE : Memref sig .tc .hbm S1024x256 .f32 := Memref.whole main_call0_v6
abbrev hbB : Memref sig .tc .hbm S1024x256 .bf16 := Memref.whole main_call0_v7
abbrev hbQ : Memref sig .tc .hbm S1x1024 .f32 := Memref.whole main_call0_v2
abbrev hbI : Memref sig .tc .hbm S1x1024 .f32 := Memref.whole main_call0_v4

abbrev BufAt (c : Dev nD) {sp : Space} {S : Shape} {e : EltTy} (M : Memref sig .tc sp S e) : Type :=
  Buf (Elt F) (M.view.loc (c : Thread nD τ))
abbrev ptAt (c : Dev nD) {sp : Space} {S : Shape} {e : EltTy} (M : Memref sig .tc sp S e) (f : BufAt (F := F) c M) : sProp 𝕄 :=
  M.view.loc (c : Thread nD τ) ↦{fullShare} f

/-- The body's branch: whether this is the first grid point. -/
abbrev AtStart (i : grid0.Coords) : Prop :=
  Scalar.cmpi .ne (Scalar.extui (Scalar.cmpi .eq (BitVec.ofNat 32 (i 0).val) 0#32) : BitVec 32) 0#32 = 1#1

/-- The scratch buffers: at the operands, or at anything while `b` still holds. -/
def Scr (b : Prop) (c : Dev nD) (fE : BufAt (F := F) c hbE) (fB : BufAt (F := F) c hbB) (fQ : BufAt (F := F) c hbQ) (fI : BufAt (F := F) c hbI) :
    sProp 𝕄 :=
  iprop(∃ (gE : BufAt (F := F) c scE) (gB : BufAt (F := F) c scB) (gQ : BufAt (F := F) c scQ) (gI : BufAt (F := F) c scI),
    ⌜b ∨ (scE.view.read (Elt F) gE = hbE.view.read (Elt F) fE ∧ scB.view.read (Elt F) gB = hbB.view.read (Elt F) fB
      ∧ scQ.view.read (Elt F) gQ = hbQ.view.read (Elt F) fQ ∧ scI.view.read (Elt F) gI = hbI.view.read (Elt F) fI)⌝
    ∗ (scE.view.loc (c : Thread nD τ) ↦[scE.view.set]{fullShare} gE) ∗ (scB.view.loc (c : Thread nD τ) ↦[scB.view.set]{fullShare} gB)
    ∗ (scQ.view.loc (c : Thread nD τ) ↦[scQ.view.set]{fullShare} gQ) ∗ (scI.view.loc (c : Thread nD τ) ↦[scI.view.set]{fullShare} gI))

/-! ## The four copies of the first point -/

/-- What one copy delivers: its scratch buffer at the landed contents, and the operand back as it was. -/
abbrev dlv (c : Dev nD) {sp sp' : Space} {S : Shape} {e : EltTy} (rd : Memref sig .tc sp S e) (rs : Memref sig .tc sp' S e)
    (fs : BufAt (F := F) c rs) : sProp 𝕄 :=
  iprop((rd.view.loc (c : Thread nD τ) ↦[rd.view.set]{fullShare} rd.view.writes (Elt F) rd.view.junk [⟨Rect.whole S, ReadAs.same.apply (rs.view.read (Elt F) fs)⟩])
    ∗ (rs.view.loc (c : Thread nD τ) ↦[rs.view.set]{fullShare} fs))

/-- The copies' sizes, in the DMA engine's units, in issue order. -/
abbrev amt : Fin 4 → ℕ := ![32768, 16384, 128, 128]

/-- The four deliveries, in issue order. -/
def deliv (c : Dev nD) (fE : BufAt (F := F) c hbE) (fB : BufAt (F := F) c hbB) (fQ : BufAt (F := F) c hbQ) (fI : BufAt (F := F) c hbI) : Fin 4 → sProp 𝕄
  | 0 => dlv c scE hbE fE
  | 1 => dlv c scB hbB fB
  | 2 => dlv c scQ hbQ fQ
  | 3 => dlv c scI hbI fI
instance deliv_storable (c : Dev nD) (fE : BufAt (F := F) c hbE) (fB : BufAt (F := F) c hbB) (fQ : BufAt (F := F) c hbQ) (fI : BufAt (F := F) c hbI) (t : Fin 4) :
    Storable (upEmb : UEmb _ 𝕄) (deliv c fE fB fQ fI t) := by
  fin_cases t <;> simp only [deliv] <;> infer_instance

/-- A load of a whole buffer that one copy just filled reads what the copy carried. -/
theorem landed {sp : Space} {S : Shape} {e : EltTy} (M : Memref sig .tc sp S e) {off : Fin S.rank → ℕ} (inb : ∀ a, off a + S.size a ≤ S.size a)
    (w : S.Idx → Elt F e) : M.view.readCov [⟨Rect.whole S, ReadAs.same.apply w⟩] (Rect.unit off S.size inb).toLoadRect = w :=
  (View.readAt_full M.view _ inb).trans (View.read_writes_whole _ _ _)

/-! ## The body up to the first chunk -/

/-- From the scratch in either state, the body's first part ends with the operands in scratch and returns what it
    computes of them and of the block `z` of inputs. -/
theorem part1_spec (c : Dev nD) (i : grid0.Coords)
    (arg1 : Memref sig .tc .vmem S1024x256 .f32) (harg1 : arg1.IsWhole) (arg6 : Memref sig .tc .vmem S1024 .i32) (harg6 : arg6.IsWhole)
    (arg7 : Memref sig .tc .vmem S1024x1024 .f32) (harg7 : arg7.IsWhole) (arg8 : Memref sig .tc .vmem S1024x256 .f32) (harg8 : arg8.IsWhole)
    (fE : BufAt (F := F) c hbE) (fB : BufAt (F := F) c hbB) (fQ : BufAt (F := F) c hbQ) (fI : BufAt (F := F) c hbI) (z : Vec F S1024x256 .f32)
    (W : Waits sig Unit) (K : _ → sProp 𝕄) :
    iprop(owns (c : Thread nD τ) arg1 fullShare z ∗ Scr (AtStart i) c fE fB fQ fI ∗ semVal ((c : Thread nD τ), SemLoc.dma 8) 0
        ∗ ptAt c hbE fE ∗ ptAt c hbB fB ∗ ptAt c hbQ fQ ∗ ptAt c hbI fI ∗ owes (c : Thread nD τ) 0 W
        ∗ (iprop(owns (c : Thread nD τ) arg1 fullShare z ∗ Scr False c fE fB fQ fI ∗ semVal ((c : Thread nD τ), SemLoc.dma 8) 0
            ∗ ptAt c hbE fE ∗ ptAt c hbB fB ∗ ptAt c hbQ fQ ∗ ptAt c hbI fI ∗ (∃ W', owes (c : Thread nD τ) 0 W'))
          -∗ K ⟨hbB.view.read (Elt F) fB, hbQ.view.read (Elt F) fQ, hbI.view.read (Elt F) fI,
              k0_pay3 (hbE.view.read (Elt F) fE) z, k0_pay4 z, k0_pay5 z,
              k0_pay9 (hbE.view.read (Elt F) fE) (hbQ.view.read (Elt F) fQ) (hbI.view.read (Elt F) fI) z,
              k0_pay10 (hbE.view.read (Elt F) fE) (hbQ.view.read (Elt F) fQ) z, k0_pay11 (hbE.view.read (Elt F) fE) (hbQ.view.read (Elt F) fQ) z,
              k0_pay12 (hbI.view.read (Elt F) fI), k0_pay13 (hbE.view.read (Elt F) fE) (hbQ.view.read (Elt F) fQ) z⟩))
      ⊢ wp frame (wpE (defs₀ (F := F)) Variants.none c none) Set.univ
          (k0_part1_skel i arg1 harg1 hbE (Memref.isWhole_whole _) hbB (Memref.isWhole_whole _) hbQ (Memref.isWhole_whole _) hbI (Memref.isWhole_whole _)
            arg6 harg6 arg7 harg7 arg8 harg8 scE (Memref.isWhole_whole _) scB (Memref.isWhole_whole _) scQ (Memref.isWhole_whole _) scI (Memref.isWhole_whole _)
            cc0_scratch4) K := by
  unfold k0_part1_skel Scr owns
  by_cases hc : AtStart i
  · iintro ⟨⟨%f1, %h1, H1⟩, ⟨%gE, %gB, %gQ, %gI, -, HE, HB, HQ, HI⟩, Hs, Hh0, Hh1, Hh2, Hh3, HW, Hk⟩
    imod (Transfers.mixedBatch_alloc' (Lvl := ℕ) (countersEmb (U := Pipeline.UD sig nD τ)) (c : Thread nD τ) () amt
      (deliv c fE fB fQ fI) (sm := SemLoc.dma 8) (E := Set.univ)) $$ Hs with HM
    unfold deliv
    sl_exec
    sl_step
    rw [show part1_spec.sl.v3 c fE = hbE.view.read (Elt F) fE from landed scE _ _, show part1_spec.sl.v4 c fB = hbB.view.read (Elt F) fB from landed scB _ _,
      show part1_spec.sl.v5 c fQ = hbQ.view.read (Elt F) fQ from landed scQ _ _, show part1_spec.sl.v6 c fI = hbI.view.read (Elt F) fI from landed scI _ _,
      show arg1.view.readAt (Elt F) (Rect.unit ![0, 0] S1024x256.size inb_S1024x256_S1024x256_0_0).toLoadRect f1 = z from
        (View.readAt_full arg1.view f1 inb_S1024x256_S1024x256_0_0).trans h1]
    iapply Hk
    isplitl [H1]; · iexists _; isplitr; swap; · iexact H1
                    ipureintro; exact h1
    isplitl [HM_dst0 HM_dst1 HM_dst2 HM_dst3]
    · iexists _, _, _, _; isplitr; swap
      · isplitl [HM_dst0]; · iexact HM_dst0
        isplitl [HM_dst1]; · iexact HM_dst1
        isplitl [HM_dst2]; · iexact HM_dst2
        iexact HM_dst3
      ipureintro
      exact Or.inr ⟨View.read_writes_whole _ _ _, View.read_writes_whole _ _ _, View.read_writes_whole _ _ _, View.read_writes_whole _ _ _⟩
    isplitl [HM]; · iexact HM
    isplitl [Hh0]; · iexact Hh0
    isplitl [Hh1]; · iexact Hh1
    isplitl [Hh2]; · iexact Hh2
    isplitl [Hh3]; · iexact Hh3
    iexists _; iexact HW
  · iintro ⟨⟨%f1, %h1, H1⟩, ⟨%gE, %gB, %gQ, %gI, %hg, HE, HB, HQ, HI⟩, Hs, Hh0, Hh1, Hh2, Hh3, HW, Hk⟩
    obtain ⟨eE, eB, eQ, eI⟩ := hg.resolve_left hc
    sl_exec
    sl_step
    rw [show arg1.view.readAt (Elt F) (Rect.unit ![0, 0] S1024x256.size inb_S1024x256_S1024x256_0_0).toLoadRect f1 = z from
        (View.readAt_full arg1.view f1 inb_S1024x256_S1024x256_0_0).trans h1,
      show scE.view.readAt (Elt F) (Rect.unit ![0, 0] S1024x256.size inb_S1024x256_S1024x256_0_0).toLoadRect gE = hbE.view.read (Elt F) fE from
        (View.readAt_full scE.view gE inb_S1024x256_S1024x256_0_0).trans eE,
      show scB.view.readAt (Elt F) (Rect.unit ![0, 0] S1024x256.size inb_S1024x256_S1024x256_0_0).toLoadRect gB = hbB.view.read (Elt F) fB from
        (View.readAt_full scB.view gB inb_S1024x256_S1024x256_0_0).trans eB,
      show scQ.view.readAt (Elt F) (Rect.unit ![0, 0] S1x1024.size inb_S1x1024_S1x1024_0_0).toLoadRect gQ = hbQ.view.read (Elt F) fQ from
        (View.readAt_full scQ.view gQ inb_S1x1024_S1x1024_0_0).trans eQ,
      show scI.view.readAt (Elt F) (Rect.unit ![0, 0] S1x1024.size inb_S1x1024_S1x1024_0_0).toLoadRect gI = hbI.view.read (Elt F) fI from
        (View.readAt_full scI.view gI inb_S1x1024_S1x1024_0_0).trans eI]
    iapply Hk
    isplitl [H1]; · iexists _; isplitr; swap; · iexact H1
                    ipureintro; exact h1
    isplitl [HE HB HQ HI]
    · iexists _, _, _, _; isplitr; swap
      · isplitl [HE]; · iexact HE
        isplitl [HB]; · iexact HB
        isplitl [HQ]; · iexact HQ
        iexact HI
      ipureintro; exact Or.inr ⟨eE, eB, eQ, eI⟩
    isplitl [Hs]; · iexact Hs
    isplitl [Hh0]; · iexact Hh0
    isplitl [Hh1]; · iexact Hh1
    isplitl [Hh2]; · iexact Hh2
    isplitl [Hh3]; · iexact Hh3
    iexists _; iexact HW

/-! ## The whole body -/

/-- The body at a point, over staging buffers `arg1` (inputs), `arg6`, `arg7`, `arg8` (results). -/
abbrev bodyProg (i : grid0.Coords)
    (arg1 : Memref sig .tc .vmem S1024x256 .f32) (harg1 : arg1.IsWhole) (arg6 : Memref sig .tc .vmem S1024 .i32) (harg6 : arg6.IsWhole)
    (arg7 : Memref sig .tc .vmem S1024x1024 .f32) (harg7 : arg7.IsWhole) (arg8 : Memref sig .tc .vmem S1024x256 .f32) (harg8 : arg8.IsWhole) :=
  cc0__vq_body (F := F) i arg1 harg1 hbE (Memref.isWhole_whole _) hbB (Memref.isWhole_whole _) hbQ (Memref.isWhole_whole _) hbI (Memref.isWhole_whole _)
    arg6 harg6 arg7 harg7 arg8 harg8 scE (Memref.isWhole_whole _) scB (Memref.isWhole_whole _) scQ (Memref.isWhole_whole _) scI (Memref.isWhole_whole _)
    cc0_scratch4

/-- The body runs at every point, and leaves each result block written with the pieces the run finds. -/
noncomputable def bodyRun (c : Dev nD) (i : grid0.Coords)
    (arg1 : Memref sig .tc .vmem S1024x256 .f32) (harg1 : arg1.IsWhole) (arg6 : Memref sig .tc .vmem S1024 .i32) (harg6 : arg6.IsWhole)
    (arg7 : Memref sig .tc .vmem S1024x1024 .f32) (harg7 : arg7.IsWhole) (arg8 : Memref sig .tc .vmem S1024x256 .f32) (harg8 : arg8.IsWhole)
    (fE : BufAt (F := F) c hbE) (fB : BufAt (F := F) c hbB) (fQ : BufAt (F := F) c hbQ) (fI : BufAt (F := F) c hbI) (z : Vec F S1024x256 .f32) :
    { L : List (View.Piece (Elt F) S1024 .i32) × List (View.Piece (Elt F) S1024x1024 .f32) × List (View.Piece (Elt F) S1024x256 .f32) //
      ∀ (W : Waits sig Unit) (K : PUnit → sProp 𝕄),
        iprop(owns (c : Thread nD τ) arg1 fullShare z
            ∗ (∃ d, owns (c : Thread nD τ) arg6 fullShare d) ∗ (∃ d, owns (c : Thread nD τ) arg7 fullShare d) ∗ (∃ d, owns (c : Thread nD τ) arg8 fullShare d)
            ∗ Scr (AtStart i) c fE fB fQ fI ∗ semVal ((c : Thread nD τ), SemLoc.dma 8) 0
            ∗ ptAt c hbE fE ∗ ptAt c hbB fB ∗ ptAt c hbQ fQ ∗ ptAt c hbI fI ∗ owes (c : Thread nD τ) 0 W
            ∗ (iprop(owns (c : Thread nD τ) arg1 fullShare z
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2)
                ∗ Scr False c fE fB fQ fI ∗ semVal ((c : Thread nD τ), SemLoc.dma 8) 0
                ∗ ptAt c hbE fE ∗ ptAt c hbB fB ∗ ptAt c hbQ fQ ∗ ptAt c hbI fI ∗ (∃ W', owes (c : Thread nD τ) 0 W')) -∗ K ⟨⟩))
          ⊢ wp frame (wpE (defs₀ (F := F)) Variants.none c none) Set.univ (bodyProg i arg1 harg1 arg6 harg6 arg7 harg7 arg8 harg8) K } := by
  refine ⟨⟨?_, ?_, ?_⟩, fun W K => ?run⟩
  case run =>
    simp only [bodyProg, cc0__vq_body_eq_skeleton]; unfold cc0__vq_body_skel
    simp only [k0_part34_eq_skeleton]; unfold k0_part34_skel
    simp only [bind_assoc]
    rw [k0_part1_eq_skeleton]
    rw [wp_bind]
    unfold owns
    iintro ⟨H1, ⟨%d6, %f6, -, H6⟩, ⟨%d7, %f7, -, H7⟩, ⟨%d8, %f8, -, H8⟩, HS, Hs, Hh0, Hh1, Hh2, Hh3, HW, Hk⟩
    iapply (part1_spec c i arg1 harg1 arg6 harg6 arg7 harg7 arg8 harg8 fE fB fQ fI z W _)
    isplitl [H1]; · unfold owns; iexact H1
    isplitl [HS]; · iexact HS
    isplitl [Hs]; · iexact Hs
    isplitl [Hh0]; · iexact Hh0
    isplitl [Hh1]; · iexact Hh1
    isplitl [Hh2]; · iexact Hh2
    isplitl [Hh3]; · iexact Hh3
    isplitl [HW]; · iexact HW
    iintro ⟨H1, HS, Hs, Hh0, Hh1, Hh2, Hh3, HW⟩
    dsimp only
    sl_exec
    sl_step
    iapply Hk
    isplitl [H1]; · unfold owns; iexact H1
    isplitl [H6]; · iexists _; iexact H6
    isplitl [H7]; · iexists _; iexact H7
    isplitl [H8]; · iexists _; iexact H8
    isplitl [HS]; · iexact HS
    isplitl [Hs]; · iexact Hs
    isplitl [Hh0]; · iexact Hh0
    isplitl [Hh1]; · iexact Hh1
    isplitl [Hh2]; · iexact Hh2
    isplitl [Hh3]; · iexact Hh3
    iexact HW

end Cert.KernelIdeal.Hand
-- ==== Proof.RunIdeal.lean ====
/-
  The kernel's run: @main to the region, the sixteen grid points, and what the result arrays hold afterwards — each
  block of each result at the body's stores at that point —, with the arguments unchanged and every semaphore at zero.
-/
module

public import proofs.«01_k».proof.Proof.BodyIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over the state the copies need -/

theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's one DMA semaphore. -/
abbrev sems : Fin 1 → SemLoc sig := fun j => (![SemLoc.dma 8] : Fin 1 → SemLoc sig) j
theorem sems_facts : Pipeline.OwnSemFacts spec0 sems := by decide
theorem sems_eq (c : Dev nD) :
    (Pipeline.ownSems0 (Ix := Unit) (Name := ℕ) (U := Pipeline.UD sig nD τ) (Lvl := ℕ) (Val := Elt F) (τ := τ) sems c : sProp 𝕄)
      = semVal ((c : Thread nD τ), SemLoc.dma 8) 0 := by
  rw [Pipeline.ownSems0_eq_of_list c sems [0] (by decide) (by decide)]; rfl

/-- The HBM operands the copies read. -/
def hbmOps : Finset (Ref sig .tc) := {main_call0_v6, main_call0_v7, main_call0_v2, main_call0_v4}
theorem hbmOps_sub : hbmOps ⊆ Pipeline.restRefs sig spec0 := by decide
theorem hbmOps_eq (c : Dev nD) :
    (bigSep hbmOps (fun b => ((c : Thread nD τ).loc b) ↦{fullShare} V m c b) : sProp 𝕄)
      = iprop(ptAt c hbE (V m c main_call0_v6) ∗ ptAt c hbB (V m c main_call0_v7) ∗ ptAt c hbQ (V m c main_call0_v2) ∗ ptAt c hbI (V m c main_call0_v4)) := by
  rw [BI.bigSep_eq_bigSepL_of_eq [main_call0_v6, main_call0_v7, main_call0_v2, main_call0_v4] (by decide) (by decide)]; rfl

/-! ## The state between two points -/

/-- Before point `k`: the scratch at the operands unless no point has run, the random-number register, the semaphore at
    zero, the operands in HBM. -/
def Inv (c : Dev nD) (k : ℕ) : sProp 𝕄 :=
  iprop(Scr (k = 0) c (V m c main_call0_v6) (V m c main_call0_v7) (V m c main_call0_v2) (V m c main_call0_v4) ∗ (∃ r, prngReg c r)
    ∗ semVal ((c : Thread nD τ), SemLoc.dma 8) 0
    ∗ ptAt c hbE (V m c main_call0_v6) ∗ ptAt c hbB (V m c main_call0_v7) ∗ ptAt c hbQ (V m c main_call0_v2) ∗ ptAt c hbI (V m c main_call0_v4))

theorem atStart_iff (t : Fin cfg0.N) : AtStart (grid0.coords t) = (t.val = 0) := by
  have h : ∀ t : Fin cfg0.N, AtStart (grid0.coords t) ↔ t.val = 0 := by decide +kernel
  exact propext (h t)

theorem scratch_eq (c : Dev nD) :
    (Pipeline.scopedRest (Ix := Unit) (Name := ℕ) (U := Pipeline.UD sig nD τ) (Lvl := ℕ) (Val := Elt F) spec0 c : sProp 𝕄)
      = iprop((∃ d, owns (c : Thread nD τ) scE fullShare d) ∗ (∃ d, owns (c : Thread nD τ) scB fullShare d)
        ∗ (∃ d, owns (c : Thread nD τ) scQ fullShare d) ∗ (∃ d, owns (c : Thread nD τ) scI fullShare d)) := by
  rw [scopedRest0_eq]; simp only [scE, scB, scQ, scI, owns_whole]; try rfl

theorem inv_in (c : Dev nD) : Pipeline.ΦD sems spec0 hbmOps (V m) c ⊢ Inv m c 0 := by
  rw [Pipeline.ΦD_eq, scratch_eq, sems_eq, hbmOps_eq]
  unfold Inv Scr owns
  iintro ⟨⟨⟨%d0, %g0, -, HE⟩, ⟨%d1, %g1, -, HB⟩, ⟨%d2, %g2, -, HQ⟩, ⟨%d3, %g3, -, HI⟩⟩, Hg, Hs, Hh0, Hh1, Hh2, Hh3⟩
  isplitl [HE HB HQ HI]
  · iexists _, _, _, _; isplitr; swap
    · isplitl [HE]; · iexact HE
      isplitl [HB]; · iexact HB
      isplitl [HQ]; · iexact HQ
      iexact HI
    ipureintro; exact Or.inl rfl
  isplitl [Hg]; · iexact Hg
  isplitl [Hs]; · iexact Hs
  isplitl [Hh0]; · iexact Hh0
  isplitl [Hh1]; · iexact Hh1
  isplitl [Hh2]; · iexact Hh2
  iexact Hh3

theorem inv_out (c : Dev nD) (k : ℕ) : Inv m c k ⊢ Pipeline.ΦD sems spec0 hbmOps (V m) c := by
  rw [Pipeline.ΦD_eq, scratch_eq, sems_eq, hbmOps_eq]
  unfold Inv Scr owns
  iintro ⟨⟨%gE, %gB, %gQ, %gI, -, HE, HB, HQ, HI⟩, Hg, Hs, Hh0, Hh1, Hh2, Hh3⟩
  isplitl [HE HB HQ HI]
  · isplitl [HE]
    · iexists _, _; isplitr; swap; · iexact HE
      ipureintro; rfl
    isplitl [HB]
    · iexists _, _; isplitr; swap; · iexact HB
      ipureintro; rfl
    isplitl [HQ]
    · iexists _, _; isplitr; swap; · iexact HQ
      ipureintro; rfl
    iexists _, _; isplitr; swap; · iexact HI
    ipureintro; rfl
  isplitl [Hg]; · iexact Hg
  isplitl [Hs]; · iexact Hs
  isplitl [Hh0]; · iexact Hh0
  isplitl [Hh1]; · iexact Hh1
  isplitl [Hh2]; · iexact Hh2
  iexact Hh3

/-! ## What a point leaves in the result blocks -/

abbrev st0 (t : Fin cfg0.N) : Memref sig .tc .vmem S1024x256 .f32 := win0_0.stage (cfg0.slots t 0)
abbrev st1 (t : Fin cfg0.N) : Memref sig .tc .vmem S1024 .i32 := win0_1.stage (cfg0.slots t 1)
abbrev st2 (t : Fin cfg0.N) : Memref sig .tc .vmem S1024x1024 .f32 := win0_2.stage (cfg0.slots t 2)
abbrev st3 (t : Fin cfg0.N) : Memref sig .tc .vmem S1024x256 .f32 := win0_3.stage (cfg0.slots t 3)

/-- The pieces point `t` stores, into the three result blocks. -/
abbrev pieces (c : Dev nD) (t : Fin cfg0.N) :=
  (bodyRun (F := F) c (grid0.coords t) (st0 t) (hstage0_0 (cfg0.slots t 0)) (st1 t) (hstage0_1 (cfg0.slots t 1)) (st2 t) (hstage0_2 (cfg0.slots t 2)) (st3 t) (hstage0_3 (cfg0.slots t 3))
    (V m c main_call0_v6) (V m c main_call0_v7) (V m c main_call0_v2) (V m c main_call0_v4) (iblk m c 0 t)).1

theorem cover1 (c : Dev nD) (t : Fin cfg0.N) (y : S1024.Idx) : ∃ pc ∈ (pieces m c t).1, y ∈ pc.1.set :=
  View.cover_of_tiledL (pieces m c t).1 S1024.size (by sl_kernel_rfl) y
theorem cover2 (c : Dev nD) (t : Fin cfg0.N) (y : S1024x1024.Idx) : ∃ pc ∈ (pieces m c t).2.1, y ∈ pc.1.set :=
  View.cover_of_tiledL (pieces m c t).2.1 S64x1024.size (by sl_kernel_rfl) y
theorem cover3 (c : Dev nD) (t : Fin cfg0.N) (y : S1024x256.Idx) : ∃ pc ∈ (pieces m c t).2.2, y ∈ pc.1.set :=
  View.cover_of_tiledL (pieces m c t).2.2 S64x256.size (by sl_kernel_rfl) y

def out1 (c : Dev nD) (t : Fin cfg0.N) : Vec F S1024 .i32 := View.canon (pieces m c t).1
def out2 (c : Dev nD) (t : Fin cfg0.N) : Vec F S1024x1024 .f32 := View.canon (pieces m c t).2.1
def out3 (c : Dev nD) (t : Fin cfg0.N) : Vec F S1024x256 .f32 := View.canon (pieces m c t).2.2

/-! ## The proof data and the body's obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => out1 m c t
    | ⟨2, _⟩ => out2 m c t
    | ⟨3, _⟩ => out3 m c t
  Φ t := Inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = out1 m c t := by dsimp only [dats]
theorem after2 (c : Dev nD) (t : Fin cfg0.N) : (dats m 0 c).after 2 t = out2 m c t := by dsimp only [dats]
theorem after3 (c : Dev nD) (t : Fin cfg0.N) : (dats m 0 c).after 3 t = out3 m c t := by dsimp only [dats]

/-- The input window's buffer holds its block when the body starts. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl,
    after0, after1, after2, after3]
  unfold Dat.owesAt Pipeline.owesWithin
  rw [show (dats m 0 c).owed t.castSucc = 0 from rfl, show (dats m 0 c).owed t.succ = 0 from rfl]
  unfold Inv
  rw [← atStart_iff t, show (t.val + 1 = 0) = False from propext ⟨fun h => absurd h (by omega), False.elim⟩]
  iintro ⟨⟨HS, Hg, Hs, Hh0, Hh1, Hh2, Hh3⟩, ⟨%W, -, HW⟩, ⟨%d0, H0⟩, ⟨%d1, H1⟩, ⟨%d2, H2⟩, ⟨%d3, H3⟩⟩
  iapply ((bodyRun (F := F) c (grid0.coords t) (st0 t) (hstage0_0 (cfg0.slots t 0)) (st1 t) (hstage0_1 (cfg0.slots t 1)) (st2 t) (hstage0_2 (cfg0.slots t 2)) (st3 t) (hstage0_3 (cfg0.slots t 3))
    (V m c main_call0_v6) (V m c main_call0_v7) (V m c main_call0_v2) (V m c main_call0_v4) (iblk m c 0 t)).2 W _)
  isplitl [H0]; · rw [before0]; iexact H0
  isplitl [H1]; · iexists _; iexact H1
  isplitl [H2]; · iexists _; iexact H2
  isplitl [H3]; · iexists _; iexact H3
  isplitl [HS]; · iexact HS
  isplitl [Hs]; · iexact Hs
  isplitl [Hh0]; · iexact Hh0
  isplitl [Hh1]; · iexact Hh1
  isplitl [Hh2]; · iexact Hh2
  isplitl [Hh3]; · iexact Hh3
  isplitl [HW]; · iexact HW
  iintro ⟨H0, ⟨%e1, H1⟩, ⟨%e2, H2⟩, ⟨%e3, H3⟩, HS, Hs, Hh0, Hh1, Hh2, Hh3, ⟨%W', HW'⟩⟩
  isplitl [HS Hg Hs Hh0 Hh1 Hh2 Hh3]
  · isplitl [HS]; · iexact HS
    isplitl [Hg]; · iexact Hg
    isplitl [Hs]; · iexact Hs
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]
  · unfold owns; iexists _; isplitr
    swap; · iexact H1
    ipureintro; exact View.read_writes_eq_canon _ _ _ (cover1 m c t)
  isplitl [H2]
  · unfold owns; iexists _; isplitr
    swap; · iexact H2
    ipureintro; exact View.read_writes_eq_canon _ _ _ (cover2 m c t)
  unfold owns; iexists _; isplitr
  swap; · iexact H3
  ipureintro; exact View.read_writes_eq_canon _ _ _ (cover3 m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := fun r => Pipeline.FramePost cfgs (dats m) 0 (V m) r ∧ r.2.sem = fun _ => 0)
    cfgs (dats m) (0 : Fin 1) launch0 sems defs₀ Variants.none sems_facts hbmOps hbmOps_sub m ρ main
    (hbody := fun c => (body_obligation m c).loose) (hshare := fun c => (dats m 0 c).share_full fun _ => rfl)
    (howed := fun _ _ => rfl) (V := V m) (hmain := main_prefix m Variants.none) (hA := A_eq m)
    (hin := fun c => inv_in m c) (hout := fun c => inv_out m c _) (hQ' := fun _ h => h)

/-- THE FRAME, at any float interpretation: both arguments end as launched, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.KernelIdeal.Hand
-- ==== Proof.Ref.lean ====
/-
  The plain program's run: what its three results hold, as functions of the two arguments, and its frame.
-/
module

public import proofs.«01_k».proof.Proof.Gen.ReferenceIdeal
public import Idealize.ShloMosaic.Lib.Claim
public import Idealize.ShloMosaic.Lib.Quiescent
public import Idealize.ShloMosaic.PureOps.Ideal

@[expose] public section

namespace Cert.ReferenceIdeal.Hand

open Idealize.ShloMosaic Idealize.SL.Sem Cert.ReferenceIdeal.Gen

/-- The distances the plain program compares: one row per vector, one column per code. -/
noncomputable def dist (x : FVec Ideal S16384x256 .f32) (e : FVec Ideal S1024x256 .f32) : FVec Ideal S16384x1024 .f32 :=
  addf (subf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x256_S16384_d1 h_S_)))
      (mulf (broadcastInDim S16384x1024 ![] bcast_S_S16384x1024 (constant S_ .f32 0x40000000#32))
        (Host.dotGeneral dot_S16384x256_S256x1024_S16384x1024_1_0_0_1_n_n none x
          (transpose S256x1024 [1, 0] e transposes_S1024x256_S256x1024_1_0))))
    (broadcastInDim S16384x1024 ![0, 1] bcast_S1x1024_S16384x1024_0_1
      (broadcastInDim S1x1024 ![1] bcast_S1024_S1x1024_1
        (Host.reduceAdd (mulf e e) (constant S_ .f32 0x00000000#32) reducesTo_S1024x256_S1024_d1 h_S_)))

/-- The column of the least distance of each row. -/
noncomputable def near (d : FVec Ideal S16384x1024 .f32) : IVec S16384 32 := fun j =>
  (Host.argReduce reducer_argmin_f32_i32 d (iotaInDim S16384x1024 32 1) (constant S_ .f32 0x7F800000#32) (constantI S_ 32 0#32)
    reducesTo_S16384x1024_S16384_d1 h_S_ j).2

/-- One at each row's column, zero elsewhere. -/
noncomputable def hot (k : IVec S16384 32) : FVec Ideal S16384x1024 .f32 :=
  uitofp .f32 (cmpi .eq
    (broadcastInDim S16384x1024 ![0, 1] bcast_S16384x1_S16384x1024_0_1 (broadcastInDim S16384x1 ![0] bcast_S16384_S16384x1_0 k))
    (broadcastInDim S16384x1024 ![0, 1] bcast_S1x1024_S16384x1024_0_1 (iotaInDim S1x1024 32 1)))

/-- Each row's code vector. -/
noncomputable def pick (o : FVec Ideal S16384x1024 .f32) (e : FVec Ideal S1024x256 .f32) : FVec Ideal S16384x256 .f32 :=
  Host.dotGeneral dot_S16384x1024_S1024x256_S16384x256_1_0_0_1_n_n none o e

/-- The type of the search's two results, as functions of its four operands. -/
abbrev Vals (F : FTy → Type) := FVec F S16384x1024 .f32 → IVec S16384x1024 32 → FVec F S_ .f32 → IVec S_ 32 → FVec F S16384 .f32
abbrev Cols (F : FTy → Type) := FVec F S16384x1024 .f32 → IVec S16384x1024 32 → FVec F S_ .f32 → IVec S_ 32 → IVec S16384 32

/-- The program's operations in order, the search's two results left open. -/
noncomputable abbrev opsOf {F : FTy → Type} [FloatOps F] (vals : Vals F) (cols : Cols F) : List (HloOp τ sig (Elt F)) :=
  [ StableHlo.binary main_arg0 main_arg0 main_v0 (mulf : (⟨S16384x256, .f32⟩ : BufTy).Contents (Elt F) → (⟨S16384x256, .f32⟩ : BufTy).Contents (Elt F) → (⟨S16384x256, .f32⟩ : BufTy).Contents (Elt F)),
    StableHlo.nullary main_cst (constant S_ .f32 0x00000000#32),
    StableHlo.binary main_v0 main_cst main_v1 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    StableHlo.unary main_v1 main_v2 (broadcastInDim S16384x1 ![0] bcast_S16384_S16384x1_0 : (⟨S16384, .f32⟩ : BufTy).Contents (Elt F) → (⟨S16384x1, .f32⟩ : BufTy).Contents (Elt F)),
    StableHlo.unary main_arg1 main_v3 ((transpose S256x1024 [1, 0] · transposes_S1024x256_S256x1024_1_0) : (⟨S1024x256, .f32⟩ : BufTy).Contents (Elt F) → (⟨S256x1024, .f32⟩ : BufTy).Contents (Elt F)),
    StableHlo.binary main_arg0 main_v3 main_v4 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    StableHlo.nullary main_cst_0 (constant S_ .f32 0x40000000#32),
    StableHlo.unary main_cst_0 main_v5 (broadcastInDim S16384x1024 ![] bcast_S_S16384x1024 : (⟨S_, .f32⟩ : BufTy).Contents (Elt F) → (⟨S16384x1024, .f32⟩ : BufTy).Contents (Elt F)),
    StableHlo.binary main_v5 main_v4 main_v6 (mulf : (⟨S16384x1024, .f32⟩ : BufTy).Contents (Elt F) → (⟨S16384x1024, .f32⟩ : BufTy).Contents (Elt F) → (⟨S16384x1024, .f32⟩ : BufTy).Contents (Elt F)),
    StableHlo.unary main_v2 main_v7 (broadcastInDim S16384x1024 ![0, 1] bcast_S16384x1_S16384x1024_0_1 : (⟨S16384x1, .f32⟩ : BufTy).Contents (Elt F) → (⟨S16384x1024, .f32⟩ : BufTy).Contents (Elt F)),
    StableHlo.binary main_v7 main_v6 main_v8 (subf : (⟨S16384x1024, .f32⟩ : BufTy).Contents (Elt F) → (⟨S16384x1024, .f32⟩ : BufTy).Contents (Elt F) → (⟨S16384x1024, .f32⟩ : BufTy).Contents (Elt F)),
    StableHlo.binary main_arg1 main_arg1 main_v9 (mulf : (⟨S1024x256, .f32⟩ : BufTy).Contents (Elt F) → (⟨S1024x256, .f32⟩ : BufTy).Contents (Elt F) → (⟨S1024x256, .f32⟩ : BufTy).Contents (Elt F)),
    StableHlo.nullary main_cst_1 (constant S_ .f32 0x00000000#32),
    StableHlo.binary main_v9 main_cst_1 main_v10 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v10 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v8 main_v12 main_v13 (addf : (⟨S16384x1024, .f32⟩ : BufTy).Contents (Elt F) → (⟨S16384x1024, .f32⟩ : BufTy).Contents (Elt F) → (⟨S16384x1024, .f32⟩ : BufTy).Contents (Elt F)),
    StableHlo.TRef.nullary main_call0.v0 (iotaInDim S16384x1024 32 1),
    StableHlo.TRef.nullary main_call0.cst (constant S_ .f32 0x7F800000#32),
    StableHlo.TRef.nullary main_call0.c (constantI S_ 32 0#32),
    StableHlo.TRef.quaternary (.of main_v13 : StableHlo.TRef sig ⟨S16384x1024, .f32⟩) main_call0.v0 main_call0.cst main_call0.c main_call0.v1_0 vals,
    StableHlo.TRef.quaternary (.of main_v13 : StableHlo.TRef sig ⟨S16384x1024, .f32⟩) main_call0.v0 main_call0.cst main_call0.c main_call0.v1_1 cols,
    StableHlo.TRef.unary (.of main_v14 : StableHlo.TRef sig ⟨S16384, .i32⟩) main_call1.v0 (broadcastInDim S16384x1 ![0] bcast_S16384_S16384x1_0),
    StableHlo.TRef.nullary main_call1.v1 (iotaInDim S1x1024 32 1),
    StableHlo.TRef.unary main_call1.v0 main_call1.v2 (broadcastInDim S16384x1024 ![0, 1] bcast_S16384x1_S16384x1024_0_1),
    StableHlo.TRef.unary main_call1.v1 main_call1.v3 (broadcastInDim S16384x1024 ![0, 1] bcast_S1x1024_S16384x1024_0_1),
    StableHlo.TRef.binary main_call1.v2 main_call1.v3 main_call1.v4 (cmpi .eq),
    StableHlo.TRef.unary main_call1.v4 main_call1.v5 (uitofp .f32),
    StableHlo.binary main_v15 main_arg1 main_v16 ((fun l r => Host.dotGeneral dot_S16384x1024_S1024x256_S16384x256_1_0_0_1_n_n none l r) : (⟨S16384x1024, .f32⟩ : BufTy).Contents (Elt F) → (⟨S1024x256, .f32⟩ : BufTy).Contents (Elt F) → (⟨S16384x256, .f32⟩ : BufTy).Contents (Elt F)) ]

open StableHlo in
/-- What the three results and the two arguments hold after the operations, whatever the search is. -/
theorem reads (vals : Vals Ideal) (cols : Cols Ideal) (V : Valuation τ sig (Elt Ideal)) (x : FVec Ideal S16384x256 .f32) (e : FVec Ideal S1024x256 .f32)
    (hx : V (Proc.devRef .tc main_arg0) = x) (he : V (Proc.devRef .tc main_arg1) = e) :
    StableHlo.after (opsOf vals cols) V (Proc.devRef .tc main_v16)
        = pick (hot (cols (dist x e) (iotaInDim S16384x1024 32 1) (constant S_ .f32 0x7F800000#32) (constantI S_ 32 0#32))) e
    ∧ StableHlo.after (opsOf vals cols) V (Proc.devRef .tc main_v14)
        = cols (dist x e) (iotaInDim S16384x1024 32 1) (constant S_ .f32 0x7F800000#32) (constantI S_ 32 0#32)
    ∧ StableHlo.after (opsOf vals cols) V (Proc.devRef .tc main_v15)
        = hot (cols (dist x e) (iotaInDim S16384x1024 32 1) (constant S_ .f32 0x7F800000#32) (constantI S_ 32 0#32))
    ∧ StableHlo.after (opsOf vals cols) V (Proc.devRef .tc main_arg0) = x
    ∧ StableHlo.after (opsOf vals cols) V (Proc.devRef .tc main_arg1) = e := by
  subst hx he
  refine ⟨?_, ?_, ?_, ?_, ?_⟩
  all_goals
    after_results
    try simp -implicitDefEqProofs only [StableHlo.TRef.ofBuf, StableHlo.TRef.toBuf, cast_cast, cast_eq]
    try rfl

variable (m : (ℓ : Loc nD τ sig) → Buf (Elt Ideal) ℓ) (g : Dev nD → PrngReg)

/-- The run: results and arguments at the end. -/
theorem run_main : θ_run (defs (F := Ideal)) (onTc (τ := τ) (main (F := Ideal))) ⟨m, fun _ => 0, g⟩ (fun r => ∀ c : Dev nD,
      r.2.mem ((c.tc : Thread nD τ).loc main_v16)
        = pick (hot (near (dist (m ((c.tc : Thread nD τ).loc main_arg0)) (m ((c.tc : Thread nD τ).loc main_arg1))))) (m ((c.tc : Thread nD τ).loc main_arg1))
      ∧ r.2.mem ((c.tc : Thread nD τ).loc main_v14)
        = near (dist (m ((c.tc : Thread nD τ).loc main_arg0)) (m ((c.tc : Thread nD τ).loc main_arg1)))
      ∧ r.2.mem ((c.tc : Thread nD τ).loc main_v15)
        = hot (near (dist (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (StableHlo.run_hlo (ops := opsOf
      (fun x y u v j => (Host.argReduce reducer_argmin_f32_i32 x y u v reducesTo_S16384x1024_S16384_d1 h_S_ j).1)
      (fun x y u v j => (Host.argReduce reducer_argmin_f32_i32 x y u v reducesTo_S16384x1024_S16384_d1 h_S_ j).2))
    _ _ (by hlo_seq) (by decide) (by decide) (by simp)
    (by intro _ h; (repeat (cases h with | head => rfl | tail _ h => ?_)); exact nomatch h) m g) ?_
  intro r hr c
  have h := reads (fun x y u v j => (Host.argReduce reducer_argmin_f32_i32 x y u v reducesTo_S16384x1024_S16384_d1 h_S_ j).1)
    (fun x y u v j => (Host.argReduce reducer_argmin_f32_i32 x y u v reducesTo_S16384x1024_S16384_d1 h_S_ j).2)
    (StableHlo.launchContents m c) _ _ rfl rfl
  exact ⟨(hr c _).trans h.1, (hr c _).trans h.2.1, (hr c _).trans h.2.2.1, (hr c _).trans h.2.2.2.1, (hr c _).trans h.2.2.2.2⟩

/-- The frame: arguments as launched; the program has no semaphores. -/
theorem frame_main : θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono (fun r h => ⟨fun c => (h c).2.2.2, sem_eq_zero_of_no_sems rfl r.2⟩) (run_main m g)

end Cert.ReferenceIdeal.Hand

end
-- ==== Proof.Chunk.lean ====
/-
  What one grid point of the kernel computes, stated once for all sixteen row chunks and all eight lane chunks, and the
  pieces that the body's run stores as these chunks.
-/
module

public import proofs.«01_k».proof.Proof.BodyIdeal

@[expose] public section

noncomputable section

namespace Cert.KernelIdeal.Hand

open Idealize.ShloMosaic Idealize.ShloMosaic.Tactic Idealize.SL.Sem Cert.KernelIdeal Cert.KernelIdeal.Gen

variable {F : FTy → Type} [FloatOps F]

theorem sl_sq (r : Fin 16) : S1024x1.Slices ![64 * r.val, 0] S64x1 := by revert r; decide
theorem sl_mm (r : Fin 16) (l : Fin 8) : S1024x1024.Slices ![64 * r.val, 128 * l.val] S64x128 := by revert r l; decide
theorem sl_row (l : Fin 8) : S1x1024.Slices ![0, 128 * l.val] S1x128 := by revert l; decide
theorem inb2 (r : Fin 16) : ∀ a, (![64 * r.val, 0] : Fin 2 → ℕ) a + (![64, 1024] : Fin 2 → ℕ) a ≤ S1024x1024.size a := by revert r; decide
theorem inb3 (r : Fin 16) : ∀ a, (![64 * r.val, 0] : Fin 2 → ℕ) a + (![64, 256] : Fin 2 → ℕ) a ≤ S1024x256.size a := by revert r; decide

section
variable (E : FVec F S1024x256 .f32) (B : FVec F S1024x256 .bf16) (Q I : FVec F S1x1024 .f32) (z : FVec F S1024x256 .f32)

/-- The distances of row chunk `r` in lane chunk `l`. -/
def dl (r : Fin 16) (l : Fin 8) : FVec F S64x128 .f32 :=
  addf (subf (broadcastTo S64x128 (extractStridedSlice S64x1 ![64 * r.val, 0] (k0_pay4 z) (sl_sq r)) broadcasts_S64x1_S64x128)
      (extractStridedSlice S64x128 ![64 * r.val, 128 * l.val] (k0_pay3 E z) (sl_mm r l)))
    (broadcastTo S64x128 (extractStridedSlice S1x128 ![0, 128 * l.val] Q (sl_row l)) broadcasts_S1x128_S64x128)

/-- The column numbers of lane chunk `l`. -/
def il (l : Fin 8) : FVec F S64x128 .f32 :=
  broadcastTo S64x128 (shapeCast S1x128 (extractStridedSlice S1x128 ![0, 128 * l.val] I (sl_row l)) shapeCasts_S1x128_S1x128) broadcasts_S1x128_S64x128

/-- One lane chunk met: the smaller distance is kept, with its column. -/
def meet (s : FVec F S64x128 .f32 × FVec F S64x128 .f32) (d i : FVec F S64x128 .f32) : FVec F S64x128 .f32 × FVec F S64x128 .f32 :=
  (select (cmpf .olt d s.1) d s.1, select (cmpf .olt d s.1) i s.2)

/-- The smallest distance per lane, and its column, after all lane chunks. -/
def kept (r : Fin 16) : FVec F S64x128 .f32 × FVec F S64x128 .f32 :=
  [1, 2, 3, 4, 5, 6, 7].foldl (fun s l => meet s (dl E Q z r l) (il I l)) (dl E Q z r 0, il I 0)

/-- The least column among the lanes at the row's least distance. -/
def least (s : FVec F S64x128 .f32 × FVec F S64x128 .f32) : FVec F S64x1 .f32 :=
  shapeCast S64x1 (multiReduction .minimumf [1] S64
    (select (cmpf .oeq s.1 (broadcastTo S64x128
        (shapeCast S64x1 (multiReduction .minimumf [1] S64 s.1 0x7F800000#32 reduces_S64x128_S64 (.inl rfl) rfl) shapeCasts_S64_S64x1)
        broadcasts_S64x1_S64x128))
      s.2 (broadcast S64x128 (Scalar.ofBits .f32 0x44800000#32))) 0x7F800000#32 reduces_S64x128_S64 (.inl rfl) rfl) shapeCasts_S64_S64x1

/-- The columns found for row chunk `r`, as floats. -/
def colF (r : Fin 16) : FVec F S64x1 .f32 := least (kept E Q I z r)

/-- The rows of the second result in chunk `r`. -/
def ohC (r : Fin 16) : FVec F S64x1024 .f32 :=
  select (cmpf .oeq (broadcastTo S64x1024 I broadcasts_S1x1024_S64x1024) (broadcastTo S64x1024 (colF E Q I z r) broadcasts_S64x1_S64x1024))
    (broadcast S64x1024 (Scalar.ofBits .f32 0x3F800000#32)) (broadcast S64x1024 (Scalar.ofBits .f32 0x00000000#32))

/-- The rows of the third result in chunk `r`. -/
def zqC (r : Fin 16) : FVec F S64x256 .f32 :=
  matmul dot_S64x1024_S1024x256_S64x256_1_0_0_1_n_n none (truncf .bf16 (ohC E Q I z r) bitsLt_bf16_f32) B (constant S64x256 .f32 0x00000000#32)

/-- All columns found, as integers. -/
def idxC : IVec S1024 32 :=
  k0_pay2 (colF E Q I z 0) (colF E Q I z 1) (colF E Q I z 2) (colF E Q I z 3) (colF E Q I z 4) (colF E Q I z 5) (colF E Q I z 6) (colF E Q I z 7)
    (colF E Q I z 8) (colF E Q I z 9) (colF E Q I z 10) (colF E Q I z 11) (colF E Q I z 12) (colF E Q I z 13) (colF E Q I z 14) (colF E Q I z 15)
end

variable (c : Dev nD) (i : grid0.Coords) (arg1 : Memref sig .tc .vmem S1024x256 .f32) (harg1 : arg1.IsWhole) (arg6 : Memref sig .tc .vmem S1024 .i32) (harg6 : arg6.IsWhole) (arg7 : Memref sig .tc .vmem S1024x1024 .f32) (harg7 : arg7.IsWhole) (arg8 : Memref sig .tc .vmem S1024x256 .f32) (harg8 : arg8.IsWhole)
  (fE : BufAt (F := F) c hbE) (fB : BufAt (F := F) c hbB) (fQ : BufAt (F := F) c hbQ) (fI : BufAt (F := F) c hbI) (z : Vec F S1024x256 .f32)

theorem pieces2_eq : (bodyRun (F := F) c i arg1 harg1 arg6 harg6 arg7 harg7 arg8 harg8 fE fB fQ fI z).1.2.1
    = [15, 14, 13, 12, 11, 10, 9, 8, 7, 6, 5, 4, 3, 2, 1, 0].map fun r : Fin 16 =>
      (⟨Rect.unit ![64 * r.val, 0] ![64, 1024] (inb2 r),
        ohC (View.read (Elt F) (View.whole main_call0_v6) fE) (View.read (Elt F) (View.whole main_call0_v2) fQ) (View.read (Elt F) (View.whole main_call0_v4) fI) z r⟩ : View.Piece (Elt F) S1024x1024 .f32) := by
  sl_kernel_rfl
theorem pieces3_eq : (bodyRun (F := F) c i arg1 harg1 arg6 harg6 arg7 harg7 arg8 harg8 fE fB fQ fI z).1.2.2
    = [15, 14, 13, 12, 11, 10, 9, 8, 7, 6, 5, 4, 3, 2, 1, 0].map fun r : Fin 16 =>
      (⟨Rect.unit ![64 * r.val, 0] ![64, 256] (inb3 r),
        zqC (View.read (Elt F) (View.whole main_call0_v6) fE) (View.read (Elt F) (View.whole main_call0_v7) fB) (View.read (Elt F) (View.whole main_call0_v2) fQ) (View.read (Elt F) (View.whole main_call0_v4) fI) z r⟩ : View.Piece (Elt F) S1024x256 .f32) := by
  sl_kernel_rfl
theorem pieces1_eq : (bodyRun (F := F) c i arg1 harg1 arg6 harg6 arg7 harg7 arg8 harg8 fE fB fQ fI z).1.1
    = [⟨Rect.unit ![0] ![1024] inb_S1024_S1024_0,
        idxC (View.read (Elt F) (View.whole main_call0_v6) fE) (View.read (Elt F) (View.whole main_call0_v2) fQ) (View.read (Elt F) (View.whole main_call0_v4) fI) z⟩] := by
  sl_kernel_rfl

end Cert.KernelIdeal.Hand

end
-- ==== Proof.Math.lean ====
/-
  The search for the nearest code, on extended reals: both programs find the first column at a row's least distance.
-/
module

public import Idealize.ShloMosaic.PureOps.Ideal
public import Idealize.ShloMosaic.PureOps.Ideal.Laws
public import Idealize.ShloMosaic.PureOps.Reduce
public import Idealize.ShloMosaic.Lib.Pointwise

@[expose] public section

namespace Cert.Near

open Idealize.ShloMosaic

/-- Column `n` is the first at the least value of `D`. -/
def First (D : Fin 1024 → EReal) (n : Fin 1024) : Prop := (∀ k, D n ≤ D k) ∧ ∀ k, D k ≤ D n → n ≤ k

theorem First.unique {D : Fin 1024 → EReal} {n n' : Fin 1024} (h : First D n) (h' : First D n') : n = n' :=
  le_antisymm (h.2 _ (h'.1 _)) (h'.2 _ (h.1 _))

theorem exists_first (D : Fin 1024 → EReal) : ∃ n, First D n := by
  obtain ⟨a, -, ha⟩ := Finset.exists_min_image Finset.univ D ⟨0, Finset.mem_univ _⟩
  obtain ⟨n, hn, hmin⟩ := Finset.exists_min_image (Finset.univ.filter fun k => D k ≤ D a) id ⟨a, by simp⟩
  have hn' : D n ≤ D a := (Finset.mem_filter.mp hn).2
  exact ⟨n, fun k => hn'.trans (ha k (Finset.mem_univ _)), fun k hk => hmin k (Finset.mem_filter.mpr ⟨Finset.mem_univ _, hk.trans hn'⟩)⟩

/-! ## The kernel's search -/

/-- One step of the search along the lane chunks: keep the smaller value with its column. -/
noncomputable def step (d i : Fin 8 → EReal) (s : EReal × EReal) (l : Fin 8) : EReal × EReal :=
  (if d l < s.1 then d l else s.1, if d l < s.1 then i l else s.2)

/-- All lane chunks met, the kept pair is that of the first of them at their least value. -/
theorem kept_all (d i : Fin 8 → EReal) :
    ∃ l : Fin 8, ([1, 2, 3, 4, 5, 6, 7] : List (Fin 8)).foldl (Near.step d i) (d 0, i 0) = (d l, i l) ∧ ∀ k, d l ≤ d k ∧ (d k ≤ d l → l ≤ k) := by
  have base : ∃ l : Fin 8, l.val < 1 ∧ (d 0, i 0) = (d l, i l) ∧ ∀ k : Fin 8, k.val < 1 → d l ≤ d k ∧ (d k ≤ d l → l ≤ k) :=
    ⟨0, by decide, rfl, fun k hk => by
      have : k = 0 := Fin.ext (by simpa using hk)
      subst this; exact ⟨le_rfl, fun _ => le_rfl⟩⟩
  have next : ∀ (m : ℕ) (s : EReal × EReal) (j : Fin 8), j.val = m →
      (∃ l : Fin 8, l.val < m ∧ s = (d l, i l) ∧ ∀ k : Fin 8, k.val < m → d l ≤ d k ∧ (d k ≤ d l → l ≤ k)) →
      ∃ l : Fin 8, l.val < m + 1 ∧ Near.step d i s j = (d l, i l) ∧ ∀ k : Fin 8, k.val < m + 1 → d l ≤ d k ∧ (d k ≤ d l → l ≤ k) := by
    rintro m s j hj ⟨l, hl, rfl, h⟩
    by_cases hlt : d j < d l
    · refine ⟨j, by omega, by simp [Near.step, hlt], fun k hk => ?_⟩
      rcases Nat.lt_succ_iff_lt_or_eq.mp hk with hk | hk
      · have := (h k hk).1
        exact ⟨hlt.le.trans this, fun hle => absurd (hle.trans_lt hlt) (not_lt.mpr this)⟩
      · have : k = j := Fin.ext (by omega)
        subst this; exact ⟨le_rfl, fun _ => le_rfl⟩
    · refine ⟨l, by omega, by simp [Near.step, hlt], fun k hk => ?_⟩
      rcases Nat.lt_succ_iff_lt_or_eq.mp hk with hk | hk
      · exact h k hk
      · have : k = j := Fin.ext (by omega)
        subst this; exact ⟨not_lt.mp hlt, fun _ => Fin.le_def.mpr (by omega)⟩
  have h2 := next 1 _ 1 rfl base
  have h3 := next 2 _ 2 rfl h2
  have h4 := next 3 _ 3 rfl h3
  have h5 := next 4 _ 4 rfl h4
  have h6 := next 5 _ 5 rfl h5
  have h7 := next 6 _ 6 rfl h6
  obtain ⟨l, -, h, h'⟩ := next 7 _ 7 rfl h7
  exact ⟨l, h, fun k => h' k k.isLt⟩

/-- The column of lane `q` in lane chunk `l`. -/
def at_ (l : Fin 8) (q : Fin 128) : Fin 1024 := ⟨128 * l.val + q.val, by omega⟩

/-- A column number as an extended real. -/
noncomputable def num (n : ℕ) : EReal := ((n : ℝ) : EReal)

theorem num_le {a b : ℕ} : num a ≤ num b ↔ a ≤ b := by
  unfold num; rw [EReal.coe_le_coe_iff, Nat.cast_le]
theorem num_inj {a b : ℕ} : num a = num b ↔ a = b := by
  unfold num; rw [EReal.coe_eq_coe_iff, Nat.cast_inj]

/-- The least column among the lanes at the least value is the first column at the least value. -/
theorem least_first (D : Fin 1024 → EReal) (K N : Fin 128 → EReal)
    (h : ∀ q, ∃ l, (K q, N q) = (D (at_ l q), num (at_ l q)) ∧ ∀ k, D (at_ l q) ≤ D (at_ k q) ∧ (D (at_ k q) ≤ D (at_ l q) → l ≤ k)) :
    ∃ n : Fin 1024, First D n ∧
      (Finset.univ.fold min ⊤ fun q => if K q = Finset.univ.fold min ⊤ (fun q => K q) then N q else num 1024) = num n := by
  obtain ⟨n, hn⟩ := exists_first D
  refine ⟨n, hn, ?_⟩
  have hq0 : n.val % 128 < 128 := Nat.mod_lt _ (by decide)
  have hl0 : n.val / 128 < 8 := by omega
  obtain ⟨l, hKN, hl⟩ := h ⟨n.val % 128, hq0⟩
  have hnat : at_ ⟨n.val / 128, hl0⟩ ⟨n.val % 128, hq0⟩ = n := Fin.ext (by simp only [at_]; omega)
  have h1 := (hl ⟨n.val / 128, hl0⟩)
  rw [hnat] at h1
  have h2 : n ≤ at_ l ⟨n.val % 128, hq0⟩ := hn.2 _ h1.1
  have h3 : l ≤ ⟨n.val / 128, hl0⟩ := h1.2 (hn.1 _)
  have hle : l = ⟨n.val / 128, hl0⟩ := by
    refine le_antisymm h3 (Fin.le_def.mpr ?_)
    have := Fin.le_def.mp h2
    simp only [at_] at this ⊢
    omega
  rw [hle, hnat] at hKN
  obtain ⟨hK, hN⟩ := Prod.mk.inj hKN
  have hm : Finset.univ.fold min ⊤ (fun q => K q) = D n := by
    refine le_antisymm ((Finset.fold_min_le _).mpr (Or.inr ⟨_, Finset.mem_univ _, hK.le⟩)) ((Finset.le_fold_min _).mpr ⟨le_top, fun q _ => ?_⟩)
    obtain ⟨l', hKN', -⟩ := h q
    rw [(Prod.mk.inj hKN').1]; exact hn.1 _
  rw [hm]
  refine le_antisymm ((Finset.fold_min_le _).mpr (Or.inr ⟨⟨n.val % 128, hq0⟩, Finset.mem_univ _, ?_⟩)) ((Finset.le_fold_min _).mpr ⟨le_top, fun q _ => ?_⟩)
  · rw [if_pos hK, hN]
  · split
    · rename_i hq
      obtain ⟨l', hKN', -⟩ := h q
      obtain ⟨e1, e2⟩ := Prod.mk.inj hKN'
      rw [e2, num_le]
      exact Fin.le_def.mp (hn.2 _ ((e1.symm.trans hq).le))
    · exact num_le.mpr n.isLt.le

/-! ## The plain program's search -/

/-- Smaller value, or the same value at a column no larger. -/
def Le (a b : EReal × BitVec 32) : Prop := a.1 < b.1 ∨ (a.1 = b.1 ∧ a.2.toNat ≤ b.2.toNat)

theorem Le.rfl' {a : EReal × BitVec 32} : Le a a := Or.inr ⟨rfl, le_rfl⟩
theorem Le.trans' {a b c : EReal × BitVec 32} (h : Le a b) (h' : Le b c) : Le a c := by
  unfold Le at *
  rcases h with h | ⟨h, i⟩ <;> rcases h' with h' | ⟨h', i'⟩
  · exact Or.inl (h.trans h')
  · exact Or.inl (h'  ▸ h)
  · exact Or.inl (h ▸ h')
  · exact Or.inr ⟨h.trans h', i.trans i'⟩

/-- A choice between two pairs that keeps the one that comes first. -/
def Picks (f : EReal × BitVec 32 → EReal × BitVec 32 → EReal × BitVec 32) : Prop :=
  ∀ a b, a.2.toNat < 1024 → b.2.toNat < 1024 → (f a b = a ∨ f a b = b) ∧ Le (f a b) a ∧ Le (f a b) b

theorem foldl_picks {f : EReal × BitVec 32 → EReal × BitVec 32 → EReal × BitVec 32} (hf : Picks f) :
    ∀ (L : List (EReal × BitVec 32)) (a : EReal × BitVec 32), a.2.toNat < 1024 → (∀ p ∈ L, p.2.toNat < 1024) →
      (L.foldl f a = a ∨ L.foldl f a ∈ L) ∧ Le (L.foldl f a) a ∧ ∀ p ∈ L, Le (L.foldl f a) p
  | [], a, _, _ => ⟨Or.inl rfl, Le.rfl', by simp⟩
  | b :: L, a, ha, hL => by
    have hb := hL b (by simp)
    obtain ⟨hc, h1, h2⟩ := hf a b ha hb
    have hfa : (f a b).2.toNat < 1024 := by rcases hc with h | h <;> rw [h] <;> assumption
    obtain ⟨hm, h3, h4⟩ := foldl_picks hf L (f a b) hfa (fun p hp => hL p (by simp [hp]))
    rw [List.foldl_cons]
    refine ⟨?_, h3.trans' h1, fun p hp => ?_⟩
    · rcases hm with h | h
      · rcases hc with h' | h'
        · exact Or.inl (h.trans h')
        · exact Or.inr (by rw [h, h']; simp)
      · exact Or.inr (by simp [h])
    · rcases List.mem_cons.mp hp with rfl | hp
      · exact h3.trans' h2
      · exact h4 p hp

/-- The choice over all columns, from `+∞` at column 0, is the first column at the least value. -/
theorem foldl_first {f : EReal × BitVec 32 → EReal × BitVec 32 → EReal × BitVec 32} (hf : Picks f) (D : Fin 1024 → EReal)
    (L : List (EReal × BitVec 32)) (hL : ∀ p, p ∈ L ↔ ∃ n : Fin 1024, p = (D n, BitVec.ofNat 32 n)) :
    ∃ n : Fin 1024, First D n ∧ (L.foldl f (⊤, 0#32)).2 = BitVec.ofNat 32 n := by
  have hn : ∀ n : Fin 1024, (BitVec.ofNat 32 n.val).toNat = n.val := fun n => by
    rw [BitVec.toNat_ofNat]; exact Nat.mod_eq_of_lt (by omega)
  obtain ⟨hm, h1, h2⟩ := foldl_picks hf L (⊤, 0#32) (by simp) (fun p hp => by
    obtain ⟨n, rfl⟩ := (hL p).mp hp
    show (BitVec.ofNat 32 n.val).toNat < 1024
    rw [hn]; exact n.isLt)
  have key : ∀ n : Fin 1024, L.foldl f (⊤, 0#32) = (D n, BitVec.ofNat 32 n) → First D n := fun n h => by
    refine ⟨fun k => ?_, fun k hk => ?_⟩ <;> have h3 := h2 _ ((hL _).mpr ⟨k, rfl⟩) <;> rw [h] at h3
    · rcases h3 with h3 | ⟨h3, -⟩
      · exact h3.le
      · exact h3.le
    · rcases h3 with h3 | ⟨-, h3⟩
      · exact absurd h3 (not_lt.mpr hk)
      · simp only [hn] at h3; exact h3
  rcases hm with h | h
  · have h3 := h2 _ ((hL _).mpr ⟨0, rfl⟩)
    have e : D 0 = ⊤ := by
      rw [h] at h3
      rcases h3 with h3 | ⟨h3, -⟩
      · exact absurd h3 not_top_lt
      · exact h3.symm
    refine ⟨0, key 0 ?_, ?_⟩
    · rw [h, e]; rfl
    · rw [h]; rfl
  · obtain ⟨n, h'⟩ := (hL _).mp h
    exact ⟨n, key n h', by rw [h']⟩

/-! ## Scalars -/

theorem two_mul_sum {ι : Type} (s : Finset ι) (f : ι → EReal) : (2 : EReal) * ∑ k ∈ s, f k = ∑ k ∈ s, 2 * f k := by
  classical
  induction s using Finset.induction_on with
  | empty => simp
  | insert a s ha ih =>
    rw [Finset.sum_insert ha, Finset.sum_insert ha, EReal.left_distrib_of_nonneg_of_ne_top (by norm_num) (by exact EReal.coe_ne_top 2), ih]

theorem bits_two : Ideal.ofBits .f32 0x40000000#32 = (2 : EReal) := by
  rw [show Ideal.ofBits .f32 0x40000000#32 = ((2 : ℝ) : EReal) by simp [Ideal.ofBits, Ideal.ieee, Nat.shiftRight_eq_div_pow]; rw [← EReal.coe_mul]; norm_num]; rfl
theorem bits_top : Ideal.ofBits .f32 0x7F800000#32 = (⊤ : EReal) := by
  simp [Ideal.ofBits, Ideal.ieee]
theorem bits_1024 : Ideal.ofBits .f32 0x44800000#32 = num 1024 := by
  simp [Ideal.ofBits, Ideal.ieee, num]; rw [← EReal.coe_mul]; norm_num

theorem fptosi_num (n : ℕ) (h : n < 1024) : Ideal.fptosi 32 (num n) = BitVec.ofNat 32 n := by
  have e : Ideal.toIntClamped (-(2 ^ (32 - 1) : Nat)) ((2 ^ (32 - 1) : Nat) - 1) (num n) = (n : Int) := by
    show max _ (min _ (if (0 : ℝ) ≤ (n : ℝ) then ⌊(n : ℝ)⌋ else ⌈(n : ℝ)⌉)) = _
    rw [if_pos (Nat.cast_nonneg n), Int.floor_natCast]
    norm_num
    omega
  unfold Ideal.fptosi
  rw [e]
  exact BitVec.ofInt_natCast 32 n

end Cert.Near

end
-- ==== Proof.Search.lean ====
/-
  What one grid point computes, on extended reals: the column found for a row is the first at the row's least distance.
-/
module

public import proofs.«01_k».proof.Proof.Chunk
public import proofs.«01_k».proof.Proof.Math
public import Idealize.ShloMosaic.Lib.Pointwise
public import Idealize.ShloMosaic.Lib.StableHlo.Run

@[expose] public section

noncomputable section

namespace Cert.KernelIdeal.Hand

open Idealize.ShloMosaic Idealize.SL.Sem Cert.KernelIdeal Cert.KernelIdeal.Gen Cert.Near

variable (E : FVec Ideal S1024x256 .f32) (B : FVec Ideal S1024x256 .bf16) (Q I : FVec Ideal S1x1024 .f32) (z : FVec Ideal S1024x256 .f32)

/-- Row `p` of the block, given by its chunk and its place in the chunk. -/
def rowOf (r : Fin 16) (p : Fin 64) : Fin 1024 := ⟨64 * r.val + p.val, by omega⟩

theorem rowOf_surj (p : Fin 1024) : ∃ r p', p = rowOf r p' :=
  ⟨⟨p.val / 64, by omega⟩, ⟨p.val % 64, by omega⟩, Fin.ext (by simp only [rowOf]; omega)⟩

/-- The distance of row `p` of the block to code `n`, as the kernel computes it. -/
def far (p n : Fin 1024) : EReal :=
  (∑ x : Fin 256, (z (ix2 p x) : EReal) * z (ix2 p x)) - (∑ x : Fin 256, (z (ix2 p x) : EReal) * E (ix2 n x)) + Q (ix2 0 n)

theorem dl_apply (r : Fin 16) (l : Fin 8) (p : Fin 64) (q : Fin 128) : dl E Q z r l (ix2 p q) = far E Q z (rowOf r p) (at_ l q) := by
  pointwise [dl, k0_pay4, k0_pay3]
  rfl

theorem il_apply (l : Fin 8) (p : Fin 64) (q : Fin 128) : il I l (ix2 p q) = I (ix2 0 (at_ l q)) := by
  pointwise [il]
  rfl

theorem meet_apply (s : FVec Ideal S64x128 .f32 × FVec Ideal S64x128 .f32) (d i : Fin 8 → FVec Ideal S64x128 .f32) (l : Fin 8) (j : S64x128.Idx) :
    ((meet s (d l) (i l)).1 j, (meet s (d l) (i l)).2 j) = step (fun l => d l j) (fun l => i l j) (s.1 j, s.2 j) l := by
  unfold meet step
  refine Prod.ext ?_ ?_
  · show Scalar.select (BitVec.ofBool (decide _)) _ _ = _
    by_cases h : d l j < s.1 j
    · simp [h, Scalar.select]
    · simp [h, Scalar.select]
  · show Scalar.select (BitVec.ofBool (decide _)) _ _ = _
    by_cases h : d l j < s.1 j
    · simp [h, Scalar.select]
    · simp [h, Scalar.select]

theorem kept_apply (d i : Fin 8 → FVec Ideal S64x128 .f32) (j : S64x128.Idx) : ∀ (L : List (Fin 8)) (s : FVec Ideal S64x128 .f32 × FVec Ideal S64x128 .f32),
    ((L.foldl (fun s l => meet s (d l) (i l)) s).1 j, (L.foldl (fun s l => meet s (d l) (i l)) s).2 j)
      = L.foldl (step (fun l => d l j) (fun l => i l j)) (s.1 j, s.2 j)
  | [], _ => rfl
  | l :: L, s => by rw [List.foldl_cons, List.foldl_cons, kept_apply d i j L, meet_apply]

theorem least_apply (s : FVec Ideal S64x128 .f32 × FVec Ideal S64x128 .f32) (p : Fin 64) (u : Fin 1) :
    least s (ix2 p u) = Finset.univ.fold min (⊤ : EReal) fun q : Fin 128 =>
      if (s.1 (ix2 p q) : EReal) = Finset.univ.fold min (⊤ : EReal) (fun q : Fin 128 => (s.1 (ix2 p q) : EReal)) then (s.2 (ix2 p q) : EReal) else num 1024 := by
  pointwise [least]
  simp only [bits_top, bits_1024]

theorem colF_first (hI : ∀ n : Fin 1024, I (ix2 0 n) = num n) (r : Fin 16) (p : Fin 64) (u : Fin 1) :
    ∃ n : Fin 1024, First (far E Q z (rowOf r p)) n ∧ colF E Q I z r (ix2 p u) = num n := by
  unfold colF
  rw [least_apply]
  refine least_first (far E Q z (rowOf r p)) (fun q => (kept E Q I z r).1 (ix2 p q)) (fun q => (kept E Q I z r).2 (ix2 p q)) fun q => ?_
  obtain ⟨l, h, h'⟩ := kept_all (fun l => dl E Q z r l (ix2 p q)) (fun l => il I l (ix2 p q))
  simp only [dl_apply, il_apply, hI] at h h'
  refine ⟨l, ?_, h'⟩
  rw [← h]
  unfold kept
  rw [kept_apply (fun l => dl E Q z r l) (fun l => il I l) (ix2 p q)]
  simp only [dl_apply, il_apply, hI]

/-- The sixteen row chunks' columns, as one list. -/
abbrev chunks (f : Fin 16 → FVec Ideal S64x1 .f32) : List ((s : Shape) × (s.Idx → Ideal .f32)) :=
  List.ofFn fun r : Fin 16 => ⟨S64x1, f r⟩

theorem chunks_eq (f : Fin 16 → FVec Ideal S64x1 .f32) : chunks f
    = [⟨S64x1, f 0⟩, ⟨S64x1, f 1⟩, ⟨S64x1, f 2⟩, ⟨S64x1, f 3⟩, ⟨S64x1, f 4⟩, ⟨S64x1, f 5⟩, ⟨S64x1, f 6⟩, ⟨S64x1, f 7⟩,
      ⟨S64x1, f 8⟩, ⟨S64x1, f 9⟩, ⟨S64x1, f 10⟩, ⟨S64x1, f 11⟩, ⟨S64x1, f 12⟩, ⟨S64x1, f 13⟩, ⟨S64x1, f 14⟩, ⟨S64x1, f 15⟩] := by
  unfold chunks
  simp only [List.ofFn_succ, List.ofFn_zero]
  rfl

theorem chunks_fit (f : Fin 16 → FVec Ideal S64x1 .f32) : Shape.Concatenates ((chunks f).map (·.1)) S1024x1 0 := by
  rw [chunks_eq]; exact concatenates_S64x1_S64x1_S64x1_S64x1_S64x1_S64x1_S64x1_S64x1_S64x1_S64x1_S64x1_S64x1_S64x1_S64x1_S64x1_S64x1_S1024x1_d0

theorem idxC_eq : (idxC E Q I z : IVec S1024 32)
    = fptosi 32 (shapeCast S1024 (concatenate S1024x1 0 (chunks (colF E Q I z)) (chunks_fit _)) shapeCasts_S1024x1_S1024) := by
  rw [StableHlo.concatenate_congr S1024x1 0 (chunks_eq (colF E Q I z)) (chunks_fit _)
    concatenates_S64x1_S64x1_S64x1_S64x1_S64x1_S64x1_S64x1_S64x1_S64x1_S64x1_S64x1_S64x1_S64x1_S64x1_S64x1_S64x1_S1024x1_d0]
  unfold idxC k0_pay2
  rfl

theorem concat_apply (f : Fin 16 → FVec Ideal S64x1 .f32) (h) (r : Fin 16) (p : Fin 64) (u : Fin 1) :
    concatenate S1024x1 0 (chunks f) h (ix2 (rowOf r p) u) = f r (ix2 p u) := by
  refine concatenate_ofFn_apply 0 f h rfl 64 rfl _ r ?_ _ ?_ fun b hb => ?_
  · show (64 * r.val + p.val) / 64 = r.val
    omega
  · show p.val = (64 * r.val + p.val) % 64
    omega
  · match b with
    | ⟨0, _⟩ => exact absurd rfl hb
    | ⟨1, _⟩ => rfl

theorem idxC_apply (r : Fin 16) (p : Fin 64) : idxC E Q I z (ix1 (rowOf r p)) = Ideal.fptosi 32 (colF E Q I z r (ix2 p 0)) := by
  rw [idxC_eq, ← concat_apply (colF E Q I z) (chunks_fit _) r p 0]
  generalize concatenate S1024x1 0 _ _ = w
  pointwise
  rfl

theorem ohC_apply (r : Fin 16) (p : Fin 64) (n : Fin 1024) :
    ohC E Q I z r (ix2 p n) = if (I (ix2 0 n) : EReal) = colF E Q I z r (ix2 p 0) then (1 : EReal) else 0 := by
  pointwise [ohC]

theorem zqC_apply (r : Fin 16) (p : Fin 64) (n : Fin 256) :
    zqC E B Q I z r (ix2 p n) = ∑ x : Fin 1024, (ohC E Q I z r (ix2 p x) : EReal) * B (ix2 x n) := by
  pointwise [zqC]

end Cert.KernelIdeal.Hand

end
-- ==== Proof.Entry.lean ====
/-
  What the kernel's operands hold when the grid starts, as functions of the two arguments, on extended reals.
-/
module

public import proofs.«01_k».proof.Proof.RunIdeal
public import proofs.«01_k».proof.Proof.Search
public import Idealize.ShloMosaic.Lib.Claim

@[expose] public section

noncomputable section

namespace Cert.KernelIdeal.Hand

open Idealize.ShloMosaic Idealize.ShloMosaic.TcCoe Idealize.SL.Sem Cert.KernelIdeal Cert.KernelIdeal.Gen Cert.Near

variable (m : (ℓ : Loc nD τ sig) → Buf (Elt Ideal) ℓ) (c : Dev nD)

/-- The two arguments as device `c` has them. -/
abbrev argX : FVec Ideal S16384x256 .f32 := m ((c : Thread nD τ).loc main_arg0)
abbrev argE : FVec Ideal S1024x256 .f32 := m ((c : Thread nD τ).loc main_arg1)

/-- The four operands the kernel copies from. -/
abbrev opE : FVec Ideal S1024x256 .f32 := V m c main_call0_v6
abbrev opB : FVec Ideal S1024x256 .bf16 := V m c main_call0_v7
abbrev opQ : FVec Ideal S1x1024 .f32 := V m c main_call0_v2
abbrev opI : FVec Ideal S1x1024 .f32 := V m c main_call0_v4

theorem opE_eq : opE m c = mulf (argE m c) (broadcastInDim S1024x256 ![] bcast_S_S1024x256 (constant S_ .f32 0x40000000#32)) := by
  unfold opE argE
  entry_read
  rfl
theorem opB_eq : opB m c = truncf .bf16 (argE m c) bitsLt_bf16_f32 := by
  unfold opB argE
  entry_read
  rfl
theorem opQ_eq : opQ m c = broadcastInDim S1x1024 ![1] bcast_S1024_S1x1024_1
    (Host.reduceAdd (mulf (argE m c) (argE m c)) (constant S_ .f32 0x00000000#32) reducesTo_S1024x256_S1024_d1 h_S_) := by
  unfold opQ argE
  entry_read
  rfl
theorem opI_eq : opI m c = broadcastInDim S1x1024 ![1] bcast_S1024_S1x1024_1 (sitofp .f32 (iotaInDim S1024 32 0)) := by
  unfold opI
  entry_read
  rfl

theorem opE_apply (n : Fin 1024) (k : Fin 256) : (opE m c (ix2 n k) : EReal) = 2 * argE m c (ix2 n k) := by
  rw [opE_eq]
  generalize argE m c = e
  pointwise
  rw [bits_two]
  exact mul_comm _ _
theorem opB_apply (n : Fin 1024) (k : Fin 256) : (opB m c (ix2 n k) : EReal) = argE m c (ix2 n k) := by
  rw [opB_eq]
  generalize argE m c = e
  pointwise
theorem opQ_apply (u : Fin 1) (n : Fin 1024) : (opQ m c (ix2 u n) : EReal) = ∑ k : Fin 256, (argE m c (ix2 n k) : EReal) * argE m c (ix2 n k) := by
  rw [opQ_eq]
  generalize argE m c = e
  pointwise
theorem opI_apply (u : Fin 1) (n : Fin 1024) : (opI m c (ix2 u n) : EReal) = num n := by
  rw [opI_eq]
  pointwise
  show (((BitVec.ofNat 32 n.val).toInt : ℝ) : EReal) = ((n.val : ℝ) : EReal)
  rw [BitVec.toInt_eq_toNat_of_lt (by rw [BitVec.toNat_ofNat]; omega), BitVec.toNat_ofNat, Nat.mod_eq_of_lt (by omega)]
  simp

end Cert.KernelIdeal.Hand

end
-- ==== Proof.RefNear.lean ====
/-
  The plain program's results read at an index, on extended reals.
-/
module

public import proofs.«01_k».proof.Proof.Ref
public import proofs.«01_k».proof.Proof.Math
public import Idealize.ShloMosaic.Lib.Pointwise

@[expose] public section

noncomputable section

namespace Cert.ReferenceIdeal.Hand

open Idealize.ShloMosaic Idealize.SL.Sem Cert.ReferenceIdeal Cert.ReferenceIdeal.Gen Cert.Near

variable (x : FVec Ideal S16384x256 .f32) (e : FVec Ideal S1024x256 .f32)

theorem dist_apply (p : Fin 16384) (q : Fin 1024) : dist x e (ix2 p q)
    = (∑ k : Fin 256, (x (ix2 p k) : EReal) * x (ix2 p k)) - (∑ k : Fin 256, (x (ix2 p k) : EReal) * (2 * e (ix2 q k)))
      + ∑ k : Fin 256, (e (ix2 q k) : EReal) * e (ix2 q k) := by
  pointwise [dist]
  rw [bits_two, two_mul_sum]
  congr 2
  exact Finset.sum_congr rfl fun k _ => mul_left_comm _ _ _

theorem hot_apply (k : IVec S16384 32) (p : Fin 16384) (q : Fin 1024) : hot k (ix2 p q) = if k (ix1 p) = BitVec.ofNat 32 q then (1 : EReal) else 0 := by
  pointwise [hot]
  by_cases h : k (ix1 p) = BitVec.ofNat 32 q.val
  · rw [if_pos h, h]; simp [IntOp.cmpi, FloatOps.uitofp]
  · rw [if_neg h]; simp [IntOp.cmpi, FloatOps.uitofp, h]

theorem pick_apply (o : FVec Ideal S16384x1024 .f32) (p : Fin 16384) (q : Fin 256) :
    pick o e (ix2 p q) = ∑ n : Fin 1024, (o (ix2 p n) : EReal) * e (ix2 n q) := by
  pointwise [pick]

theorem drop_eq (h : S16384x1024.ReducesTo [1] S16384) (a : Fin 16384) (b : Fin 1024) : h.drop (ix2 a b) = ix1 a := by
  funext k
  match k with
  | ⟨0, _⟩ => rfl

theorem slt_iff (a b : BitVec 32) (ha : a.toNat < 1024) (hb : b.toNat < 1024) : a.slt b = true ↔ a.toNat < b.toNat := by
  rw [BitVec.slt_iff_toInt_lt, BitVec.toInt_eq_toNat_of_lt (by omega), BitVec.toInt_eq_toNat_of_lt (by omega)]
  omega

theorem one_or (c : BitVec 1) : 1#1 ||| c = 1#1 := by revert c; decide

theorem picks : Picks (reducer_argmin_f32_i32 (F := Ideal)) := by
  rintro ⟨a, i⟩ ⟨b, j⟩ hi hj
  have hs := slt_iff i j hi hj
  simp only at hi hj
  rcases lt_trichotomy a b with h | h | h
  · have e : reducer_argmin_f32_i32 (F := Ideal) (a, i) (b, j) = (a, i) := by
      simp [reducer_argmin_f32_i32, FloatOps.cmpf, Ideal.cmp, h, Scalar.select, IntOp.cmpi, IntOp.ori, IntOp.andi, one_or]
    rw [e]; exact ⟨Or.inl rfl, Le.rfl', Or.inl h⟩
  · subst h
    by_cases hij : i.toNat < j.toNat
    · have e : reducer_argmin_f32_i32 (F := Ideal) (a, i) (a, j) = (a, i) := by
        simp [reducer_argmin_f32_i32, FloatOps.cmpf, Ideal.cmp, Scalar.select, IntOp.cmpi, IntOp.ori, IntOp.andi, hs.mpr hij]
      rw [e]; exact ⟨Or.inl rfl, Le.rfl', Or.inr ⟨rfl, hij.le⟩⟩
    · have hn : i.slt j = false := by
        rw [Bool.eq_false_iff]; exact fun h => hij (hs.mp h)
      have e : reducer_argmin_f32_i32 (F := Ideal) (a, i) (a, j) = (a, j) := by
        simp [reducer_argmin_f32_i32, FloatOps.cmpf, Ideal.cmp, Scalar.select, IntOp.cmpi, IntOp.ori, IntOp.andi, hn]
      rw [e]; exact ⟨Or.inr rfl, Or.inr ⟨rfl, not_lt.mp hij⟩, Le.rfl'⟩
  · have e : reducer_argmin_f32_i32 (F := Ideal) (a, i) (b, j) = (b, j) := by
      simp [reducer_argmin_f32_i32, FloatOps.cmpf, Ideal.cmp, Scalar.select, IntOp.cmpi, IntOp.ori, IntOp.andi, not_lt.mpr h.le, h.ne']
    rw [e]; exact ⟨Or.inr rfl, Or.inl h, Le.rfl'⟩

theorem mem_fiber (d : FVec Ideal S16384x1024 .f32) (j : S16384.Idx) (v : EReal × BitVec 32) :
    v ∈ Host.argReduceFiber d (iotaInDim S16384x1024 32 1) reducesTo_S16384x1024_S16384_d1 j
      ↔ ∃ n : Fin 1024, v = (d (ix2 (j 0) n), BitVec.ofNat 32 n) := by
  obtain ⟨p, rfl⟩ : ∃ p : Fin 16384, j = ix1 p := ⟨j 0, by funext k; match k with | ⟨0, _⟩ => rfl⟩
  show _ ↔ ∃ n : Fin 1024, v = (d (ix2 p n), BitVec.ofNat 32 n)
  unfold Host.argReduceFiber
  rw [List.mem_map]
  constructor
  · rintro ⟨k, hk, rfl⟩
    have hd := of_decide_eq_true (List.mem_filter.mp hk).2
    generalize S16384x1024.rowMajor.symm k = i at hd ⊢
    obtain ⟨a, b, rfl⟩ : ∃ (a : Fin 16384) (b : Fin 1024), i = ix2 a b := ⟨i 0, i 1, by funext k; match k with | ⟨0, _⟩ => rfl | ⟨1, _⟩ => rfl⟩
    rw [drop_eq] at hd
    have : a = p := congrFun hd 0
    subst this
    exact ⟨b, rfl⟩
  · rintro ⟨n, rfl⟩
    refine ⟨S16384x1024.rowMajor (ix2 p n), List.mem_filter.mpr ⟨List.mem_finRange _, ?_⟩, ?_⟩
    · rw [Equiv.symm_apply_apply, drop_eq]; exact decide_eq_true rfl
    · rw [Equiv.symm_apply_apply]; rfl

/-- A search at an index as a fold over its row, for any shapes and any reducer. -/
theorem search_eq {s t u : Shape} {axes : List (Fin s.rank)} (f : Ideal .f32 × BitVec 32 → Ideal .f32 × BitVec 32 → Ideal .f32 × BitVec 32)
    (d : FVec Ideal s .f32) (y : s.Idx → BitVec 32) (ix : u.Idx → Ideal .f32) (iy : u.Idx → BitVec 32) (h : s.ReducesTo axes t) (hu : 0 < u.numel)
    (j : t.Idx) (a : Ideal .f32) (b : BitVec 32) (ha : ix (Shape.Idx.first hu) = a) (hb : iy (Shape.Idx.first hu) = b) :
    (Host.argReduce f d y ix iy h hu j).2 = ((Host.argReduceFiber d y h j).foldl f (a, b)).2 := by
  subst ha hb
  rw [Ideal.argReduce_eq_reduce2, Host.reduce2_eq_foldl_fiber]

theorem search_fun {s t u : Shape} {axes : List (Fin s.rank)} (f : Ideal .f32 × BitVec 32 → Ideal .f32 × BitVec 32 → Ideal .f32 × BitVec 32)
    (d : FVec Ideal s .f32) (y : s.Idx → BitVec 32) (ix : u.Idx → Ideal .f32) (iy : u.Idx → BitVec 32) (h : s.ReducesTo axes t) (hu : 0 < u.numel)
    (a : Ideal .f32) (b : BitVec 32) (ha : ix (Shape.Idx.first hu) = a) (hb : iy (Shape.Idx.first hu) = b)
    (P : BitVec 32 → t.Idx → Prop) (hP : ∀ j, P ((Host.argReduceFiber d y h j).foldl f (a, b)).2 j) (g : t.Idx → BitVec 32)
    (hg : g = fun j => (Host.argReduce f d y ix iy h hu j).2) (j : t.Idx) : P (g j) j := by
  subst hg
  show P (Host.argReduce f d y ix iy h hu j).2 j
  rw [search_eq f d y ix iy h hu j a b ha hb]
  exact hP j

theorem top_first (i : S_.Idx) : constant (F := Ideal) S_ .f32 0x7F800000#32 i = (⊤ : EReal) := by
  unfold constant
  exact bits_top

theorem near_unfold (d : FVec Ideal S16384x1024 .f32) : near d = fun j =>
    (Host.argReduce reducer_argmin_f32_i32 d (iotaInDim S16384x1024 32 1) (constant S_ .f32 0x7F800000#32) (constantI S_ 32 0#32)
      reducesTo_S16384x1024_S16384_d1 h_S_ j).2 := rfl

theorem near_first (d : FVec Ideal S16384x1024 .f32) (j : S16384.Idx) :
    ∃ n : Fin 1024, First (fun n => d (ix2 (j 0) n)) n ∧ near d j = BitVec.ofNat 32 n :=
  search_fun reducer_argmin_f32_i32 d (iotaInDim S16384x1024 32 1) (constant S_ .f32 0x7F800000#32) (constantI S_ 32 0#32)
    reducesTo_S16384x1024_S16384_d1 h_S_ (⊤ : EReal) 0#32 (top_first _) rfl
    (fun v j => ∃ n : Fin 1024, First (fun n => d (ix2 (j 0) n)) n ∧ v = BitVec.ofNat 32 n)
    (fun j => foldl_first picks (fun n => d (ix2 (j 0) n)) _ (mem_fiber d j)) (near d) (near_unfold d) j

end Cert.ReferenceIdeal.Hand

end
-- ==== Proof.Value.lean ====
/-
  What the kernel's result arrays hold after the run: the plain program's results, block by block.
-/
module

public import proofs.«01_k».proof.Proof.Entry
public import proofs.«01_k».proof.Proof.RefNear

@[expose] public section

set_option maxRecDepth 16384

noncomputable section

namespace Cert.KernelIdeal.Hand

open Idealize.ShloMosaic Idealize.ShloMosaic.TcCoe Idealize.SL.Sem Cert.KernelIdeal Cert.KernelIdeal.Gen Cert.Near
open Idealize.ShloMosaic.Pipeline (Dat)

variable (m : (ℓ : Loc nD τ sig) → Buf (Elt Ideal) ℓ) (c : Dev nD)

/-! ## One point's result blocks, read through their pieces -/

/-- The block of the first argument that point `t` works on. -/
abbrev blkX (t : Fin cfg0.N) : FVec Ideal S1024x256 .f32 := iblk m c 0 t

/-- A function of chunk, place and column, read at a row of the block. -/
abbrev glue {N : ℕ} (f : Fin 16 → Fin 64 → Fin N → EReal) (k : Fin 1024) (q : Fin N) : EReal :=
  f ⟨k.val / 64, by omega⟩ ⟨k.val % 64, by omega⟩ q

theorem glue_eq {N : ℕ} (f : Fin 16 → Fin 64 → Fin N → EReal) (k : Fin 1024) (q q' : Fin N) (r : Fin 16) (p : Fin 64)
    (hk : k.val = 64 * r.val + p.val) (hq : q.val = q'.val) : glue f k q = f r p q' := by
  have e0 : (⟨k.val / 64, by omega⟩ : Fin 16) = r := Fin.ext (by show k.val / 64 = r.val; omega)
  have e1 : (⟨k.val % 64, by omega⟩ : Fin 64) = p := Fin.ext (by show k.val % 64 = p.val; omega)
  obtain rfl := Fin.ext hq
  unfold glue
  rw [e0, e1]

theorem exists_ix2 {a b : ℕ} (y : (⟨2, ![a, b]⟩ : Shape).Idx) : ∃ (p : Fin a) (q : Fin b), y = ix2 p q :=
  ⟨y 0, y 1, by funext k; match k with | ⟨0, _⟩ => rfl | ⟨1, _⟩ => rfl⟩

theorem exists_ix1 {a : ℕ} (y : (⟨1, ![a]⟩ : Shape).Idx) : ∃ p : Fin a, y = ix1 p :=
  ⟨y 0, by funext k; match k with | ⟨0, _⟩ => rfl⟩

theorem out1_eq (t : Fin cfg0.N) : out1 m c t = idxC (opE m c) (opQ m c) (opI m c) (blkX m c t) := by
  unfold out1 pieces
  rw [pieces1_eq, View.canon_unit_zero (funext fun a => by fin_cases a; rfl)]
  rfl

theorem out2_apply (t : Fin cfg0.N) (r : Fin 16) (p : Fin 64) (q : Fin 1024) :
    out2 m c t (ix2 (rowOf r p) q) = ohC (opE m c) (opQ m c) (opI m c) (blkX m c t) r (ix2 p q) := by
  have key := View.canon_apply_of_pieces (Val := Elt Ideal) (e := .f32)
    (fun y : S1024x1024.Idx => glue (fun r p q => ohC (opE m c) (opQ m c) (opI m c) (blkX m c t) r (ix2 p q)) (y 0) (y 1))
    (pieces m c t).2.1 (by
      unfold pieces
      rw [pieces2_eq]
      intro pc hpc x
      obtain ⟨r, -, rfl⟩ := List.mem_map.mp hpc
      obtain ⟨p, q, rfl⟩ := exists_ix2 (a := 64) (b := 1024) x
      refine (glue_eq (fun r p q => ohC (opE m c) (opQ m c) (opI m c) (blkX m c t) r (ix2 p q)) _ _ q r p ?_ ?_).symm
      · rw [Rect.emb_apply, Rect.off_unit, Rect.stride_unit, Nat.one_mul]; rfl
      · rw [Rect.emb_apply, Rect.off_unit, Rect.stride_unit, Nat.one_mul]; exact Nat.zero_add _)
    (ix2 (rowOf r p) q) (cover2 m c t _)
  exact key.trans (glue_eq (fun r p q => ohC (opE m c) (opQ m c) (opI m c) (blkX m c t) r (ix2 p q)) _ _ q r p rfl rfl)

theorem out3_apply (t : Fin cfg0.N) (r : Fin 16) (p : Fin 64) (q : Fin 256) :
    out3 m c t (ix2 (rowOf r p) q) = zqC (opE m c) (opB m c) (opQ m c) (opI m c) (blkX m c t) r (ix2 p q) := by
  have key := View.canon_apply_of_pieces (Val := Elt Ideal) (e := .f32)
    (fun y : S1024x256.Idx => glue (fun r p q => zqC (opE m c) (opB m c) (opQ m c) (opI m c) (blkX m c t) r (ix2 p q)) (y 0) (y 1))
    (pieces m c t).2.2 (by
      unfold pieces
      rw [pieces3_eq]
      intro pc hpc x
      obtain ⟨r, -, rfl⟩ := List.mem_map.mp hpc
      obtain ⟨p, q, rfl⟩ := exists_ix2 (a := 64) (b := 256) x
      refine (glue_eq (fun r p q => zqC (opE m c) (opB m c) (opQ m c) (opI m c) (blkX m c t) r (ix2 p q)) _ _ q r p ?_ ?_).symm
      · rw [Rect.emb_apply, Rect.off_unit, Rect.stride_unit, Nat.one_mul]; rfl
      · rw [Rect.emb_apply, Rect.off_unit, Rect.stride_unit, Nat.one_mul]; exact Nat.zero_add _)
    (ix2 (rowOf r p) q) (cover3 m c t _)
  exact key.trans (glue_eq (fun r p q => zqC (opE m c) (opB m c) (opQ m c) (opI m c) (blkX m c t) r (ix2 p q)) _ _ q r p rfl rfl)

/-- What point `t` leaves at row `p` of its three result blocks: the first column at the row's least distance, one there
    and zero elsewhere, and that code's vector. -/
theorem point_value (t : Fin cfg0.N) (p : Fin 1024) :
    ∃ n : Fin 1024, First (far (opE m c) (opQ m c) (blkX m c t) p) n
      ∧ out1 m c t (ix1 p) = BitVec.ofNat 32 n
      ∧ (∀ q : Fin 1024, out2 m c t (ix2 p q) = if q = n then (1 : EReal) else 0)
      ∧ ∀ q : Fin 256, out3 m c t (ix2 p q) = ∑ k : Fin 1024, (if k = n then (1 : EReal) else 0) * argE m c (ix2 k q) := by
  obtain ⟨r, p, rfl⟩ := rowOf_surj p
  obtain ⟨n, hn, h⟩ := colF_first (opE m c) (opQ m c) (opI m c) (blkX m c t) (opI_apply m c 0) r p 0
  have hoh : ∀ q : Fin 1024, ohC (opE m c) (opQ m c) (opI m c) (blkX m c t) r (ix2 p q) = if q = n then (1 : EReal) else 0 := fun q => by
    rw [ohC_apply, opI_apply, h]
    exact if_congr (num_inj.trans (Fin.ext_iff).symm) rfl rfl
  refine ⟨n, hn, ?_, fun q => (out2_apply m c t r p q).trans (hoh q), fun q => (out3_apply m c t r p q).trans ?_⟩
  · rw [out1_eq, idxC_apply, h]; exact fptosi_num n n.isLt
  · rw [zqC_apply]
    exact Finset.sum_congr rfl fun k _ => by rw [hoh, opB_apply]

/-! ## The blocks in their arrays -/

/-- Row `p` of point `t`'s block, as a row of the whole array. -/
def rowAt (t : Fin cfg0.N) (p : Fin 1024) : Fin 16384 := ⟨1024 * t.val + p.val, by have := t.isLt; have : cfg0.N = 16 := N_0; omega⟩

theorem starts : ∀ t : Fin cfg0.N, win0_0.index t 0 = t.val ∧ win0_0.index t 1 = 0 ∧ win0_1.index t 0 = t.val
    ∧ win0_2.index t 0 = t.val ∧ win0_2.index t 1 = 0 ∧ win0_3.index t 0 = t.val ∧ win0_3.index t 1 = 0 := by decide +kernel

theorem blkX_apply (t : Fin cfg0.N) (p : Fin 1024) (k : Fin 256) : blkX m c t (ix2 p k) = argX m c (ix2 (rowAt t p) k) := by
  obtain ⟨s0, s1, -⟩ := starts t
  refine Eq.trans ?_ (congrFun (V_main_arg0 m c) _)
  show V m c main_arg0 _ = V m c main_arg0 _
  refine congrArg (V m c main_arg0) (funext fun a => Fin.ext ?_)
  match a with
  | ⟨0, _⟩ => show win0_0.index t 0 * 1024 + 1 * p.val = 1024 * t.val + p.val
              rw [s0]; omega
  | ⟨1, _⟩ => show win0_0.index t 1 * 256 + 1 * k.val = k.val
              rw [s1]; omega

/-- The kernel's distance of a row is the plain program's. -/
theorem far_eq (t : Fin cfg0.N) (p : Fin 1024) :
    far (opE m c) (opQ m c) (blkX m c t) p = fun n => Cert.ReferenceIdeal.Hand.dist (argX m c) (argE m c) (ix2 (rowAt t p) n) := by
  funext n
  rw [Cert.ReferenceIdeal.Hand.dist_apply]
  unfold far
  simp only [blkX_apply]
  refine congrArg₂ (· + ·) (congrArg₂ (· - ·) rfl (Finset.sum_congr rfl fun k _ => ?_)) (opQ_apply m c 0 n)
  exact congrArg (argX m c (ix2 (rowAt t p) k) * ·) (opE_apply m c n k)

/-- The three results of the plain program, of device `c`'s arguments. -/
abbrev val1 : IVec S16384 32 := Cert.ReferenceIdeal.Hand.near (Cert.ReferenceIdeal.Hand.dist (argX m c) (argE m c))
abbrev val2 : FVec Ideal S16384x1024 .f32 := Cert.ReferenceIdeal.Hand.hot (val1 m c)
abbrev val3 : FVec Ideal S16384x256 .f32 := Cert.ReferenceIdeal.Hand.pick (val2 m c) (argE m c)

theorem val2_apply (P : Fin 16384) (q n : Fin 1024) (h : val1 m c (ix1 P) = BitVec.ofNat 32 n) : val2 m c (ix2 P q) = if q = n then (1 : EReal) else 0 := by
  refine (Cert.ReferenceIdeal.Hand.hot_apply (val1 m c) P q).trans (if_congr ?_ rfl rfl)
  rw [h]
  refine ⟨fun e => Fin.ext ?_, fun e => by rw [e]⟩
  have e := congrArg BitVec.toNat e
  simp only [BitVec.toNat_ofNat] at e
  omega

/-- Each point's blocks are the plain program's results at its rows. -/
theorem point_eq (t : Fin cfg0.N) (p : Fin 1024) :
    out1 m c t (ix1 p) = val1 m c (ix1 (rowAt t p))
      ∧ (∀ q : Fin 1024, out2 m c t (ix2 p q) = val2 m c (ix2 (rowAt t p) q))
      ∧ ∀ q : Fin 256, out3 m c t (ix2 p q) = val3 m c (ix2 (rowAt t p) q) := by
  obtain ⟨n, hn, h1, h2, h3⟩ := point_value m c t p
  rw [far_eq] at hn
  obtain ⟨n', hn', h⟩ := Cert.ReferenceIdeal.Hand.near_first (Cert.ReferenceIdeal.Hand.dist (argX m c) (argE m c)) (ix1 (rowAt t p))
  obtain rfl : n' = n := First.unique hn' hn
  refine ⟨h1.trans h.symm, fun q => (h2 q).trans (val2_apply m c _ q n' h).symm, fun q => (h3 q).trans ?_⟩
  refine Eq.trans ?_ (Cert.ReferenceIdeal.Hand.pick_apply (argE m c) (val2 m c) (rowAt t p) q).symm
  exact Finset.sum_congr rfl fun k _ => by rw [val2_apply m c _ k n' h]

end Cert.KernelIdeal.Hand

end
-- ==== Proof.Final.lean ====
/-
  The three result arrays after the run, and the value claim: the kernel's results are the plain program's.
-/
module

public import proofs.«01_k».proof.Defs
public import proofs.«01_k».proof.Proof.Value

@[expose] public section

set_option maxRecDepth 16384

noncomputable section

namespace Cert.KernelIdeal.Hand

open Idealize.ShloMosaic Idealize.ShloMosaic.TcCoe Idealize.SL.Sem Cert.KernelIdeal Cert.KernelIdeal.Gen Cert.Near
open Idealize.ShloMosaic.Pipeline (Dat)

variable (m : (ℓ : Loc nD τ sig) → Buf (Elt Ideal) ℓ) (c : Dev nD)

/-- The point whose blocks hold a row of the whole arrays. -/
def pointOf (P : Fin 16384) : Fin cfg0.N := ⟨P.val / 1024, by have : cfg0.N = 16 := N_0; omega⟩

theorem sizes : ∀ t : Fin cfg0.N, win0_1.xsize (grid0.coords t) 0 = 1024 ∧ win0_2.xsize (grid0.coords t) 0 = 1024
    ∧ win0_2.xsize (grid0.coords t) 1 = 1024 ∧ win0_3.xsize (grid0.coords t) 0 = 1024 ∧ win0_3.xsize (grid0.coords t) 1 = 256 := by decide +kernel

/-! ## What each point writes back -/

theorem flushed1_of (G : IVec S16384 32) (t : Fin cfg0.N) (h : ∀ p : Fin 1024, out1 m c t (ix1 p) = G (ix1 (rowAt t p))) :
    (dats m 0 c).flushed 1 t = (win0_1.blk t).view.read (Elt Ideal) G := by
  show (cfg0.win 1).cut (grid0.coords t) ((dats m 0 c).after 1 t) = _
  rw [after1]
  funext y
  obtain ⟨p, rfl⟩ := exists_ix1 (a := 1024) y
  obtain ⟨-, -, s0, -⟩ := starts t
  refine (h p).trans (congrArg G (funext fun a => Fin.ext ?_))
  match a with
  | ⟨0, _⟩ => show 1024 * t.val + p.val = win0_1.index t 0 * 1024 + 1 * p.val
              rw [s0]; omega

theorem flushed1 (t : Fin cfg0.N) : (dats m 0 c).flushed 1 t = (win0_1.blk t).view.read (Elt Ideal) (val1 m c) :=
  flushed1_of m c (val1 m c) t fun p => (point_eq m c t p).1

theorem flushed2 (t : Fin cfg0.N) : (dats m 0 c).flushed 2 t = (win0_2.blk t).view.read (Elt Ideal) (val2 m c) := by
  show (cfg0.win 2).cut (grid0.coords t) ((dats m 0 c).after 2 t) = _
  rw [after2]
  funext y
  obtain ⟨p, q, rfl⟩ := exists_ix2 (a := 1024) (b := 1024) y
  obtain ⟨-, -, -, s0, s1, -⟩ := starts t
  refine ((point_eq m c t p).2.1 q).trans (congrArg (val2 m c) (funext fun a => Fin.ext ?_))
  match a with
  | ⟨0, _⟩ => show 1024 * t.val + p.val = win0_2.index t 0 * 1024 + 1 * p.val
              rw [s0]; omega
  | ⟨1, _⟩ => show q.val = win0_2.index t 1 * 1024 + 1 * q.val
              rw [s1]; omega

theorem flushed3 (t : Fin cfg0.N) : (dats m 0 c).flushed 3 t = (win0_3.blk t).view.read (Elt Ideal) (val3 m c) := by
  show (cfg0.win 3).cut (grid0.coords t) ((dats m 0 c).after 3 t) = _
  rw [after3]
  funext y
  obtain ⟨p, q, rfl⟩ := exists_ix2 (a := 1024) (b := 256) y
  obtain ⟨-, -, -, -, -, s0, s1⟩ := starts t
  refine ((point_eq m c t p).2.2 q).trans (congrArg (val3 m c) (funext fun a => Fin.ext ?_))
  match a with
  | ⟨0, _⟩ => show 1024 * t.val + p.val = win0_3.index t 0 * 1024 + 1 * p.val
              rw [s0]; omega
  | ⟨1, _⟩ => show q.val = win0_3.index t 1 * 256 + 1 * q.val
              rw [s1]; omega

/-! ## The blocks fill their arrays -/

theorem fill1 (i : S16384.Idx) : ∃ t : Fin cfg0.N, (cfg0.win 1).flush t = true ∧ i ∈ ((cfg0.win 1).blk t).view.set := by
  refine ⟨pointOf (i 0), flush0_1 _, ?_⟩
  show i ∈ ((View.whole main_v0_1).slice (win0_1.rect (pointOf (i 0)))).set
  rw [View.set_slice_whole, Rect.mem_set_unit]
  obtain ⟨-, -, s0, -⟩ := starts (pointOf (i 0))
  obtain ⟨x0, -⟩ := sizes (pointOf (i 0))
  intro a
  match a with
  | ⟨0, _⟩ => show win0_1.index (pointOf (i 0)) 0 * 1024 ≤ (i 0).val ∧ (i 0).val < win0_1.index (pointOf (i 0)) 0 * 1024 + win0_1.xsize (grid0.coords (pointOf (i 0))) 0
              rw [s0, x0]; simp only [pointOf]; omega

theorem fill2 (i : S16384x1024.Idx) : ∃ t : Fin cfg0.N, (cfg0.win 2).flush t = true ∧ i ∈ ((cfg0.win 2).blk t).view.set := by
  refine ⟨pointOf (i 0), flush0_2 _, ?_⟩
  show i ∈ ((View.whole main_v0_2).slice (win0_2.rect (pointOf (i 0)))).set
  rw [View.set_slice_whole, Rect.mem_set_unit]
  obtain ⟨-, -, -, s0, s1, -⟩ := starts (pointOf (i 0))
  obtain ⟨-, x0, x1, -⟩ := sizes (pointOf (i 0))
  intro a
  match a with
  | ⟨0, _⟩ => show win0_2.index (pointOf (i 0)) 0 * 1024 ≤ (i 0).val ∧ (i 0).val < win0_2.index (pointOf (i 0)) 0 * 1024 + win0_2.xsize (grid0.coords (pointOf (i 0))) 0
              rw [s0, x0]; simp only [pointOf]; omega
  | ⟨1, _⟩ => show win0_2.index (pointOf (i 0)) 1 * 1024 ≤ (i 1).val ∧ (i 1).val < win0_2.index (pointOf (i 0)) 1 * 1024 + win0_2.xsize (grid0.coords (pointOf (i 0))) 1
              have h : (i 1).val < 1024 := (i 1).isLt
              rw [s1, x1]; omega

theorem fill3 (i : S16384x256.Idx) : ∃ t : Fin cfg0.N, (cfg0.win 3).flush t = true ∧ i ∈ ((cfg0.win 3).blk t).view.set := by
  refine ⟨pointOf (i 0), flush0_3 _, ?_⟩
  show i ∈ ((View.whole main_v0_0).slice (win0_3.rect (pointOf (i 0)))).set
  rw [View.set_slice_whole, Rect.mem_set_unit]
  obtain ⟨-, -, -, -, -, s0, s1⟩ := starts (pointOf (i 0))
  obtain ⟨-, -, -, x0, x1⟩ := sizes (pointOf (i 0))
  intro a
  match a with
  | ⟨0, _⟩ => show win0_3.index (pointOf (i 0)) 0 * 1024 ≤ (i 0).val ∧ (i 0).val < win0_3.index (pointOf (i 0)) 0 * 1024 + win0_3.xsize (grid0.coords (pointOf (i 0))) 0
              rw [s0, x0]; simp only [pointOf]; omega
  | ⟨1, _⟩ => show win0_3.index (pointOf (i 0)) 1 * 256 ≤ (i 1).val ∧ (i 1).val < win0_3.index (pointOf (i 0)) 1 * 256 + win0_3.xsize (grid0.coords (pointOf (i 0))) 1
              have h : (i 1).val < 256 := (i 1).isLt
              rw [s1, x1]; omega

/-! ## The arrays after the run -/

theorem final1 : (dats m 0 c).arrAt 1 cfg0.N = val1 m c := (dats m 0 c).arrAt_eq_of_cover 1 (val1 m c) (fun t _ => flushed1 m c t) fill1
theorem final2 : (dats m 0 c).arrAt 2 cfg0.N = val2 m c := (dats m 0 c).arrAt_eq_of_cover 2 (val2 m c) (fun t _ => flushed2 m c t) fill2
theorem final3 : (dats m 0 c).arrAt 3 cfg0.N = val3 m c := (dats m 0 c).arrAt_eq_of_cover 3 (val3 m c) (fun t _ => flushed3 m c t) fill3

theorem value_main (ρ : Dev nD → PrngReg) : θ_run (defs (F := Ideal)) (onTc (τ := τ) (main (F := Ideal))) ⟨m, fun _ => 0, ρ⟩ (fun r => ∀ c : Dev nD,
      r.2.mem ((c.tc : Thread nD τ).loc main_v0_0) = val3 m c
      ∧ r.2.mem ((c.tc : Thread nD τ).loc main_v0_1) = val1 m c
      ∧ r.2.mem ((c.tc : Thread nD τ).loc main_v0_2) = val2 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final3 m c), ((h.1 c).1 1).trans (final1 m c), ((h.1 c).1 2).trans (final2 m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩) (run_main m ρ)

end Cert.KernelIdeal.Hand

namespace Cert.Proof

open Idealize.ShloMosaic Idealize.SL.Sem

/-- At the exact reading the kernel's three results are the plain program's, for all arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨Cert.KernelIdeal.Hand.val3 m, Cert.KernelIdeal.Hand.val1 m, Cert.KernelIdeal.Hand.val2 m, Cert.KernelIdeal.Hand.value_main m g, ?_⟩
  refine (θ_run _ _ _).mono (fun r h c => ?_) (Cert.ReferenceIdeal.Hand.run_main m' g')
  obtain ⟨h3, h1, h2, h0⟩ := h c
  obtain ⟨e0, e1⟩ := hagree c
  rw [e0, e1] at h3 h1 h2
  exact ⟨h3, h1, h2, h0⟩

end Cert.Proof

end
-- ==== Proof.lean ====
/-
  The claims, each from the run of its program.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RunIdeal
public import proofs.«01_k».proof.Proof.Ref
public import proofs.«01_k».proof.Proof.Final

@[expose] public section

namespace Cert.Proof

theorem claim : Cert.Claim := ⟨Cert.Kernel.Gen.facts, Cert.KernelIdeal.Gen.facts, Cert.ReferenceIdeal.Gen.facts,
  fun m g _ => Cert.Kernel.Hand.frame_main m g, fun m g _ => Cert.KernelIdeal.Hand.frame_main m g,
  fun m g _ => Cert.ReferenceIdeal.Hand.frame_main m g, trivial, algebraic⟩

end Cert.Proof

end
